-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v17)) (v5 : (c : Dev Cert.KernelIdeal.nD) → Buf (Elt Ideal) ((c.tc : Thread Cert.KernelIdeal.nD Cert.KernelIdeal.τ).loc Cert.KernelIdeal.main_v20)) (v6 : (c : Dev Cert.KernelIdeal.nD) → Buf (Elt Ideal) ((c.tc : Thread Cert.KernelIdeal.nD Cert.KernelIdeal.τ).loc Cert.KernelIdeal.main_v21)) (v7 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_v20) = v5 c
          ∧ r.2.mem ((c.tc : Thread Cert.KernelIdeal.nD Cert.KernelIdeal.τ).loc Cert.KernelIdeal.main_v21) = v6 c
          ∧ r.2.mem ((c.tc : Thread Cert.KernelIdeal.nD Cert.KernelIdeal.τ).loc Cert.KernelIdeal.main_v24) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_v10) = v4 c
          ∧ r.2.mem ((c.tc : Thread Cert.ReferenceIdeal.nD Cert.ReferenceIdeal.τ).loc Cert.ReferenceIdeal.main_v11) = v5 c
          ∧ r.2.mem ((c.tc : Thread Cert.ReferenceIdeal.nD Cert.ReferenceIdeal.τ).loc Cert.ReferenceIdeal.main_v12) = v6 c
          ∧ r.2.mem ((c.tc : Thread Cert.ReferenceIdeal.nD Cert.ReferenceIdeal.τ).loc Cert.ReferenceIdeal.main_v13) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x8192 : Shape := ⟨3, ![2, 4096, 8192]⟩
abbrev S8192 : Shape := ⟨1, ![8192]⟩
abbrev S8192x47104 : Shape := ⟨2, ![8192, 47104]⟩
abbrev S47104 : Shape := ⟨1, ![47104]⟩
abbrev S18432x8192 : Shape := ⟨2, ![18432, 8192]⟩
abbrev S8192x8192 : Shape := ⟨2, ![8192, 8192]⟩
abbrev S1x47104 : Shape := ⟨2, ![1, 47104]⟩
abbrev S1x8192 : Shape := ⟨2, ![1, 8192]⟩
abbrev S8192x128 : Shape := ⟨2, ![8192, 128]⟩
abbrev S128x8192 : Shape := ⟨2, ![128, 8192]⟩
abbrev S128x128 : Shape := ⟨2, ![128, 128]⟩
abbrev S128 : Shape := ⟨1, ![128]⟩
abbrev S128x1 : Shape := ⟨2, ![128, 1]⟩
abbrev S8192x18432 : Shape := ⟨2, ![8192, 18432]⟩
abbrev S1024x8192 : Shape := ⟨2, ![1024, 8192]⟩
abbrev S1024x128 : Shape := ⟨2, ![1024, 128]⟩
abbrev S8192x256 : Shape := ⟨2, ![8192, 256]⟩
abbrev S1x256 : Shape := ⟨2, ![1, 256]⟩
abbrev S1024x256 : Shape := ⟨2, ![1024, 256]⟩
abbrev S1024x1 : Shape := ⟨2, ![1024, 1]⟩
abbrev S1024 : Shape := ⟨1, ![1024]⟩
abbrev S8192x10240 : Shape := ⟨2, ![8192, 10240]⟩
abbrev S8192x512 : Shape := ⟨2, ![8192, 512]⟩
abbrev S1x512 : Shape := ⟨2, ![1, 512]⟩
abbrev S1024x512 : Shape := ⟨2, ![1024, 512]⟩
abbrev S128x18432 : Shape := ⟨2, ![128, 18432]⟩
abbrev S1024x4608 : Shape := ⟨2, ![1024, 4608]⟩
abbrev S4608x1024 : Shape := ⟨2, ![4608, 1024]⟩
abbrev S1x1024 : Shape := ⟨2, ![1, 1024]⟩
abbrev S1024x1024 : Shape := ⟨2, ![1024, 1024]⟩
abbrev S2x4096x64x128 : Shape := ⟨4, ![2, 4096, 64, 128]⟩
abbrev S8192x1024 : Shape := ⟨2, ![8192, 1024]⟩
abbrev S2x4096x8x128 : Shape := ⟨4, ![2, 4096, 8, 128]⟩
abbrev S8192x1 : Shape := ⟨2, ![8192, 1]⟩
abbrev S2x4096 : Shape := ⟨2, ![2, 4096]⟩
abbrev S2x4096x18432 : Shape := ⟨3, ![2, 4096, 18432]⟩

abbrev nBuf : Space → Nat
  | .hbm => 35
  | .vmem => 55
  | .smem => 0
  | _ => 0

abbrev bufTy : (tb : Table) → Fin (tcTables nBuf tb) → BufTy
  | .hbm, ⟨0, _⟩ => ⟨S2x4096x8192, .bf16⟩
  | .hbm, ⟨1, _⟩ => ⟨S8192, .f32⟩
  | .hbm, ⟨2, _⟩ => ⟨S8192, .f32⟩
  | .hbm, ⟨3, _⟩ => ⟨S8192x47104, .i8⟩
  | .hbm, ⟨4, _⟩ => ⟨S47104, .f32⟩
  | .hbm, ⟨5, _⟩ => ⟨S18432x8192, .i8⟩
  | .hbm, ⟨6, _⟩ => ⟨S8192, .f32⟩
  | .hbm, ⟨7, _⟩ => ⟨S8192x8192, .bf16⟩
  | .hbm, ⟨8, _⟩ => ⟨S1x47104, .f32⟩
  | .hbm, ⟨9, _⟩ => ⟨S1x8192, .f32⟩
  | .hbm, ⟨10, _⟩ => ⟨S1x8192, .f32⟩
  | .hbm, ⟨11, _⟩ => ⟨S1x8192, .f32⟩
  | .hbm, ⟨12, _⟩ => ⟨S8192x8192, .i8⟩
  | .hbm, ⟨13, _⟩ => ⟨S8192x128, .f32⟩
  | .hbm, ⟨14, _⟩ => ⟨S8192x18432, .f32⟩
  | .hbm, ⟨15, _⟩ => ⟨S8192x128, .f32⟩
  | .hbm, ⟨16, _⟩ => ⟨S8192x10240, .bf16⟩
  | .hbm, ⟨17, _⟩ => ⟨S8192x18432, .i8⟩
  | .hbm, ⟨18, _⟩ => ⟨S8192x128, .f32⟩
  | .hbm, ⟨19, _⟩ => ⟨S8192x8192, .bf16⟩
  | .hbm, ⟨20, _⟩ => ⟨S8192x8192, .bf16⟩
  | .hbm, ⟨21, _⟩ => ⟨S2x4096x64x128, .bf16⟩
  | .hbm, ⟨22, _⟩ => ⟨S8192x1024, .bf16⟩
  | .hbm, ⟨23, _⟩ => ⟨S2x4096x8x128, .bf16⟩
  | .hbm, ⟨24, _⟩ => ⟨S8192x1024, .bf16⟩
  | .hbm, ⟨25, _⟩ => ⟨S2x4096x8x128, .bf16⟩
  | .hbm, ⟨26, _⟩ => ⟨S2x4096x8192, .bf16⟩
  | .hbm, ⟨27, _⟩ => ⟨S2x4096x8192, .i8⟩
  | .hbm, ⟨28, _⟩ => ⟨S8192x1, .f32⟩
  | .hbm, ⟨29, _⟩ => ⟨S8192, .f32⟩
  | .hbm, ⟨30, _⟩ => ⟨S2x4096, .f32⟩
  | .hbm, ⟨31, _⟩ => ⟨S2x4096x18432, .i8⟩
  | .hbm, ⟨32, _⟩ => ⟨S8192x1, .f32⟩
  | .hbm, ⟨33, _⟩ => ⟨S8192, .f32⟩
  | .hbm, ⟨34, _⟩ => ⟨S2x4096, .f32⟩
  | .local _ .vmem, ⟨0, _⟩ => ⟨S128x8192, .bf16⟩
  | .local _ .vmem, ⟨1, _⟩ => ⟨S128x8192, .bf16⟩
  | .local _ .vmem, ⟨2, _⟩ => ⟨S1x8192, .f32⟩
  | .local _ .vmem, ⟨3, _⟩ => ⟨S1x8192, .f32⟩
  | .local _ .vmem, ⟨4, _⟩ => ⟨S128x8192, .i8⟩
  | .local _ .vmem, ⟨5, _⟩ => ⟨S128x8192, .i8⟩
  | .local _ .vmem, ⟨6, _⟩ => ⟨S128x128, .f32⟩
  | .local _ .vmem, ⟨7, _⟩ => ⟨S128x128, .f32⟩
  | .local _ .vmem, ⟨8, _⟩ => ⟨S1024x8192, .i8⟩
  | .local _ .vmem, ⟨9, _⟩ => ⟨S1024x8192, .i8⟩
  | .local _ .vmem, ⟨10, _⟩ => ⟨S1024x128, .f32⟩
  | .local _ .vmem, ⟨11, _⟩ => ⟨S1024x128, .f32⟩
  | .local _ .vmem, ⟨12, _⟩ => ⟨S8192x256, .i8⟩
  | .local _ .vmem, ⟨13, _⟩ => ⟨S8192x256, .i8⟩
  | .local _ .vmem, ⟨14, _⟩ => ⟨S8192x256, .i8⟩
  | .local _ .vmem, ⟨15, _⟩ => ⟨S8192x256, .i8⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1024x256, .f32⟩
  | .local _ .vmem, ⟨21, _⟩ => ⟨S1024x256, .f32⟩
  | .local _ .vmem, ⟨22, _⟩ => ⟨S1024x128, .f32⟩
  | .local _ .vmem, ⟨23, _⟩ => ⟨S1024x128, .f32⟩
  | .local _ .vmem, ⟨24, _⟩ => ⟨S1024x8192, .i8⟩
  | .local _ .vmem, ⟨25, _⟩ => ⟨S1024x8192, .i8⟩
  | .local _ .vmem, ⟨26, _⟩ => ⟨S1024x128, .f32⟩
  | .local _ .vmem, ⟨27, _⟩ => ⟨S1024x128, .f32⟩
  | .local _ .vmem, ⟨28, _⟩ => ⟨S8192x512, .i8⟩
  | .local _ .vmem, ⟨29, _⟩ => ⟨S8192x512, .i8⟩
  | .local _ .vmem, ⟨30, _⟩ => ⟨S1x512, .f32⟩
  | .local _ .vmem, ⟨31, _⟩ => ⟨S1x512, .f32⟩
  | .local _ .vmem, ⟨32, _⟩ => ⟨S1024x512, .bf16⟩
  | .local _ .vmem, ⟨33, _⟩ => ⟨S1024x512, .bf16⟩
  | .local _ .vmem, ⟨34, _⟩ => ⟨S128x18432, .f32⟩
  | .local _ .vmem, ⟨35, _⟩ => ⟨S128x18432, .f32⟩
  | .local _ .vmem, ⟨36, _⟩ => ⟨S128x128, .f32⟩
  | .local _ .vmem, ⟨37, _⟩ => ⟨S128x128, .f32⟩
  | .local _ .vmem, ⟨38, _⟩ => ⟨S128x18432, .i8⟩
  | .local _ .vmem, ⟨39, _⟩ => ⟨S128x18432, .i8⟩
  | .local _ .vmem, ⟨40, _⟩ => ⟨S128x128, .f32⟩
  | .local _ .vmem, ⟨41, _⟩ => ⟨S128x128, .f32⟩
  | .local _ .vmem, ⟨42, _⟩ => ⟨S1024x4608, .i8⟩
  | .local _ .vmem, ⟨43, _⟩ => ⟨S1024x4608, .i8⟩
  | .local _ .vmem, ⟨44, _⟩ => ⟨S1024x128, .f32⟩
  | .local _ .vmem, ⟨45, _⟩ => ⟨S1024x128, .f32⟩
  | .local _ .vmem, ⟨46, _⟩ => ⟨S4608x1024, .i8⟩
  | .local _ .vmem, ⟨47, _⟩ => ⟨S4608x1024, .i8⟩
  | .local _ .vmem, ⟨48, _⟩ => ⟨S1x1024, .f32⟩
  | .local _ .vmem, ⟨49, _⟩ => ⟨S1x1024, .f32⟩
  | .local _ .vmem, ⟨50, _⟩ => ⟨S1024x1024, .bf16⟩
  | .local _ .vmem, ⟨51, _⟩ => ⟨S1024x1024, .bf16⟩
  | .local _ .vmem, ⟨52, _⟩ => ⟨S1024x1024, .bf16⟩
  | .local _ .vmem, ⟨53, _⟩ => ⟨S1024x1024, .bf16⟩
  | .local _ .vmem, ⟨54, _⟩ => ⟨S1024x1024, .f32⟩
  | _, _ => ⟨S2x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg5_1 : Ref sig .tc := ⟨.vmem, 53, rfl⟩
abbrev cc4_scratch0 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem4_1 : DmaSem sig := 51
abbrev cc4_sem5_0 : DmaSem sig := 52
abbrev cc4_sem5_1 : DmaSem sig := 53

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 72], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c112_i32 : BitVec 32 := 112#32
  let v0 : BitVec 32 := Scalar.addi c112_i32 arg1
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let arg1 : BitVec 32 := BitVec.ofNat 32 (i 1).val
  let c112_i32 : BitVec 32 := 112#32
  let v0 : BitVec 32 := Scalar.addi c112_i32 arg1
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x8192 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x256 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8192x256 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![8, 20], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x8192 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S8192x512 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x18432 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x18432 .i8 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨3, ![8, 8, 4], ![false, false, false]⟩

def k4_cond2 (i : grid4.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_4 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x4608 .i8 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, false]

abbrev stage4_2 : Fin 2 → Memref sig .tc .vmem S4608x1024 .i8 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, true]

abbrev stage4_3 : Fin 2 → Memref sig .tc .vmem S1x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true, false]

abbrev stage4_4 : Fin 2 → Memref sig .tc .vmem S1024x1024 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true, false]

abbrev stage4_5 : Fin 2 → Memref sig .tc .vmem S1024x1024 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true, false]
-- ==== ReferenceIdeal.lean ====
abbrev S2x4096x8192 : Shape := ⟨3, ![2, 4096, 8192]⟩
abbrev S8192 : Shape := ⟨1, ![8192]⟩
abbrev S8192x47104 : Shape := ⟨2, ![8192, 47104]⟩
abbrev S47104 : Shape := ⟨1, ![47104]⟩
abbrev S18432x8192 : Shape := ⟨2, ![18432, 8192]⟩
abbrev S8192x8192 : Shape := ⟨2, ![8192, 8192]⟩
abbrev S1x8192 : Shape := ⟨2, ![1, 8192]⟩
abbrev S1x47104 : Shape := ⟨2, ![1, 47104]⟩
abbrev S8192x1024 : Shape := ⟨2, ![8192, 1024]⟩
abbrev S8192x1 : Shape := ⟨2, ![8192, 1]⟩
abbrev S8192x18432 : Shape := ⟨2, ![8192, 18432]⟩
abbrev S2x4096x64x128 : Shape := ⟨4, ![2, 4096, 64, 128]⟩
abbrev S2x4096x8x128 : Shape := ⟨4, ![2, 4096, 8, 128]⟩
abbrev S2x4096 : Shape := ⟨2, ![2, 4096]⟩
abbrev S2x4096x18432 : Shape := ⟨3, ![2, 4096, 18432]⟩

abbrev nBuf : Space → Nat
  | .hbm => 28
  | .vmem => 15
  | .smem => 0
  | _ => 0

abbrev bufTy : (tb : Table) → Fin (tcTables nBuf tb) → BufTy
  | .hbm, ⟨0, _⟩ => ⟨S2x4096x8192, .bf16⟩
  | .hbm, ⟨1, _⟩ => ⟨S8192, .f32⟩
  | .hbm, ⟨2, _⟩ => ⟨S8192, .f32⟩
  | .hbm, ⟨3, _⟩ => ⟨S8192x47104, .i8⟩
  | .hbm, ⟨4, _⟩ => ⟨S47104, .f32⟩
  | .hbm, ⟨5, _⟩ => ⟨S18432x8192, .i8⟩
  | .hbm, ⟨6, _⟩ => ⟨S8192, .f32⟩
  | .hbm, ⟨7, _⟩ => ⟨S8192x8192, .bf16⟩
  | .hbm, ⟨8, _⟩ => ⟨S1x8192, .f32⟩
  | .hbm, ⟨9, _⟩ => ⟨S1x8192, .f32⟩
  | .hbm, ⟨10, _⟩ => ⟨S1x47104, .f32⟩
  | .hbm, ⟨11, _⟩ => ⟨S1x8192, .f32⟩
  | .hbm, ⟨12, _⟩ => ⟨S8192x8192, .bf16⟩
  | .hbm, ⟨13, _⟩ => ⟨S8192x1024, .bf16⟩
  | .hbm, ⟨14, _⟩ => ⟨S8192x1024, .bf16⟩
  | .hbm, ⟨15, _⟩ => ⟨S8192x8192, .bf16⟩
  | .hbm, ⟨16, _⟩ => ⟨S8192x8192, .i8⟩
  | .hbm, ⟨17, _⟩ => ⟨S8192x1, .f32⟩
  | .hbm, ⟨18, _⟩ => ⟨S8192x18432, .i8⟩
  | .hbm, ⟨19, _⟩ => ⟨S8192x1, .f32⟩
  | .hbm, ⟨20, _⟩ => ⟨S2x4096x64x128, .bf16⟩
  | .hbm, ⟨21, _⟩ => ⟨S2x4096x8x128, .bf16⟩
  | .hbm, ⟨22, _⟩ => ⟨S2x4096x8x128, .bf16⟩
  | .hbm, ⟨23, _⟩ => ⟨S2x4096x8192, .bf16⟩
  | .hbm, ⟨24, _⟩ => ⟨S2x4096x8192, .i8⟩
  | .hbm, ⟨25, _⟩ => ⟨S2x4096, .f32⟩
  | .hbm, ⟨26, _⟩ => ⟨S2x4096x18432, .i8⟩
  | .hbm, ⟨27, _⟩ => ⟨S2x4096, .f32⟩
  | .local _ .vmem, ⟨0, _⟩ => ⟨S8192x8192, .bf16⟩
  | .local _ .vmem, ⟨1, _⟩ => ⟨S1x8192, .f32⟩
  | .local _ .vmem, ⟨2, _⟩ => ⟨S1x8192, .f32⟩
  | .local _ .vmem, ⟨3, _⟩ => ⟨S8192x47104, .i8⟩
  | .local _ .vmem, ⟨4, _⟩ => ⟨S1x47104, .f32⟩
  | .local _ .vmem, ⟨5, _⟩ => ⟨S18432x8192, .i8⟩
  | .local _ .vmem, ⟨6, _⟩ => ⟨S1x8192, .f32⟩
  | .local _ .vmem, ⟨7, _⟩ => ⟨S8192x8192, .bf16⟩
  | .local _ .vmem, ⟨8, _⟩ => ⟨S8192x1024, .bf16⟩
  | .local _ .vmem, ⟨9, _⟩ => ⟨S8192x1024, .bf16⟩
  | .local _ .vmem, ⟨10, _⟩ => ⟨S8192x8192, .bf16⟩
  | .local _ .vmem, ⟨11, _⟩ => ⟨S8192x8192, .i8⟩
  | .local _ .vmem, ⟨12, _⟩ => ⟨S8192x1, .f32⟩
  | .local _ .vmem, ⟨13, _⟩ => ⟨S8192x18432, .i8⟩
  | .local _ .vmem, ⟨14, _⟩ => ⟨S8192x1, .f32⟩
  | _, _ => ⟨S2x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev main_v5_7 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8192x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x47104 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x47104 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432x8192 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x8192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x8192 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x18432 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8192x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Kernel.Reg0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Region 0 of the program, the `norm_quant` call: what its body leaves in every window at every grid point, the pipeline's
   proof data over the contents `V` it is entered with, and its body obligation. -/

@[expose] public section

-- membership in a rectangle of production extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data over `V` that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, for any proof data over `V` that leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, for any proof data over `V` that leaves it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A rectangle that region 0 reads or writes. -/
abbrev r0_0 : Rect S128x8192 := Rect.unit (s := S128x8192) ![0, 0] S128x8192.size inb_S128x8192_S128x8192_0_0
/-- A rectangle that region 0 reads or writes. -/
abbrev r0_1 : Rect S1x8192 := Rect.unit (s := S1x8192) ![0, 0] S1x8192.size inb_S1x8192_S1x8192_0_0
/-- A rectangle that region 0 reads or writes. -/
abbrev r0_2 : Rect S128x128 := Rect.unit (s := S128x128) ![0, 0] S128x128.size inb_S128x128_S128x128_0_0

/-! ## What the body leaves in each output window's buffer -/

/-- Window 3's staging buffer after the body, from the input windows' blocks: its 1 store as pieces, LAST
    FIRST (Lib/Pipeline/FrameBody.lean `View.canon`; the payloads are the skeleton's). -/
def out0_3 (x0 : Vec F S128x8192 .bf16) (x1 : Vec F S1x8192 .f32) (x2 : Vec F S1x8192 .f32) : Vec F S128x8192 .i8 :=
  View.canon [⟨r0_0, k0_pay3 (View.ld x0 r0_0) (View.ld x1 r0_1) (View.ld x2 r0_1)⟩]

/-- Its stores tile the buffer (checked by evaluation), so they cover it. -/
theorem cover0_3 (p0 : Vec F S128x8192 .i8) (y : S128x8192.Idx) :
    ∃ pc ∈ ([⟨r0_0, p0⟩] : List (View.Piece (Elt F) S128x8192 .i8)), y ∈ pc.1.set :=
  View.cover_of_tiled [⟨r0_0, p0⟩] S128x8192.size (by rfl) y

/-- Window 4's staging buffer after the body, from the input windows' blocks: its 1 store as pieces, LAST
    FIRST (Lib/Pipeline/FrameBody.lean `View.canon`; the payloads are the skeleton's). -/
def out0_4 (x0 : Vec F S128x8192 .bf16) (x1 : Vec F S1x8192 .f32) (x2 : Vec F S1x8192 .f32) : Vec F S128x128 .f32 :=
  View.canon [⟨r0_2, k0_pay4 (View.ld x0 r0_0) (View.ld x1 r0_1) (View.ld x2 r0_1)⟩]

/-- Its stores tile the buffer (checked by evaluation), so they cover it. -/
theorem cover0_4 (p0 : Vec F S128x128 .f32) (y : S128x128.Idx) :
    ∃ pc ∈ ([⟨r0_2, p0⟩] : List (View.Piece (Elt F) S128x128 .f32)), y ∈ pc.1.set :=
  View.cover_of_tiled [⟨r0_2, p0⟩] S128x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S128x8192 .bf16) (harg1 : arg1.IsWhole) (arg2 : Memref sig .tc .vmem S1x8192 .f32) (harg2 : arg2.IsWhole) (arg3 : Memref sig .tc .vmem S1x8192 .f32) (harg3 : arg3.IsWhole) (arg4 : Memref sig .tc .vmem S128x8192 .i8) (harg4 : arg4.IsWhole) (arg5 : Memref sig .tc .vmem S128x128 .f32) (harg5 : arg5.IsWhole)
    (x0 : Vec F S128x8192 .bf16) (x1 : Vec F S1x8192 .f32) (x2 : Vec F S1x8192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0_norm_quant i arg1 harg1 arg2 harg2 arg3 harg3 arg4 harg4 arg5 harg5) K := by
  simp only [cc0_norm_quant_eq_skeleton]; unfold cc0_norm_quant_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What window 1's staging buffer holds after a point of region 0. -/
theorem after0_1 (c : Dev nD) (t : Fin cfg0.N) : (dat0 V c).after 1 t = iblk0 V c 1 t := by dsimp only [dat0]
/-- What window 2's staging buffer holds after a point of region 0. -/
theorem after0_2 (c : Dev nD) (t : Fin cfg0.N) : (dat0 V c).after 2 t = iblk0 V c 2 t := by dsimp only [dat0]
/-- What window 3's staging buffer holds after a point of region 0. -/
theorem after0_3 (c : Dev nD) (t : Fin cfg0.N) : (dat0 V c).after 3 t = out0_3 (iblk0 V c 0 t) (iblk0 V c 1 t) (iblk0 V c 2 t) := by dsimp only [dat0]
/-- What window 4's staging buffer holds after a point of region 0. -/
theorem after0_4 (c : Dev nD) (t : Fin cfg0.N) : (dat0 V c).after 4 t = out0_4 (iblk0 V c 0 t) (iblk0 V c 1 t) (iblk0 V c 2 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What window 1's staging buffer holds before a point of region 0: its block. -/
theorem before0_1 (c : Dev nD) (t : Fin cfg0.N) (d) : (dat0 V c).before 1 t d = iblk0 V c 1 t :=
  before0_1_of V (dat0 V c) (A_eq0 V c 1) (after0_1 V c) t d
/-- What window 2's staging buffer holds before a point of region 0: its block. -/
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Fr

end
-- ==== Proof.Kernel.Reg1.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Region 1 of the program, the `gate_up` call: what its body leaves in every window at every grid point, the pipeline's
   proof data over the contents `V` it is entered with, and its body obligation. -/

@[expose] public section

-- membership in a rectangle of production extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data over `V` that leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, for any proof data over `V` that leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, for any proof data over `V` that leaves it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, for any proof data over `V` that leaves it in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, for any proof data over `V` that leaves it in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, for any proof data over `V` that leaves it in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 72) — by arithmetic of the point. -/
theorem hcond1_0 : ∀ t : Fin cfg1.N, cond1_0 (grid1.coords t) ↔ t.val % 72 = 0 :=
  (fun t => by
    have ht : t.val < 576 := Nat.lt_of_lt_of_eq t.isLt N_1
    have e0 : (grid1.coords t 0).val = t.val / 72 % 8 := Pipeline.Grid.coords_val t 0 (by decide) rfl
    have e1 : (grid1.coords t 1).val = t.val / 1 % 72 := Pipeline.Grid.coords_val t 1 (by decide) rfl
    simp only [cond1_0, e0, e1]
    word_cmp
   : ∀ t : Fin grid1.N, cond1_0 (grid1.coords t) ↔ t.val % 72 = 0)

/-! ## The kernel body on any staging memrefs: a subtype the run finds -/

/-- One staging buffer of output window 6, through which its contents are stated (`View.read_writes_of_cover`: the
    choice does not matter). -/
abbrev VO1_6 : View sig .tc .vmem S1024x256 .f32 := (Memref.whole cc1_stg6_0 : Memref sig .tc .vmem S1024x256 .f32).view
/-- One staging buffer of output window 7, through which its contents are stated (`View.read_writes_of_cover`: the
    choice does not matter). -/
abbrev VO1_7 : View sig .tc .vmem S1024x128 .f32 := (Memref.whole cc1_stg7_0 : Memref sig .tc .vmem S1024x128 .f32).view
/-- Each window's current staging memref at point `t`, spelled as the pipeline passes it (`bodyAt1`), and its wholeness. -/
abbrev ms1_0 (t : Fin cfg1.N) : Memref sig .tc .vmem S1024x8192 .i8 := win1_0.stage (cfg1.slots t 0)
/-- The staging buffer of region 1's window 0 is a whole buffer. -/
abbrev hs1_0 (t : Fin cfg1.N) : (ms1_0 t).IsWhole := hstage1_0 ((cfg1.slots t 0).cast nbuf1_0)
/-- Region 1's staging buffer of window 1 at a point. -/
abbrev ms1_1 (t : Fin cfg1.N) : Memref sig .tc .vmem S1024x128 .f32 := win1_1.stage (cfg1.slots t 1)
/-- The staging buffer of region 1's window 1 is a whole buffer. -/
abbrev hs1_1 (t : Fin cfg1.N) : (ms1_1 t).IsWhole := hstage1_1 ((cfg1.slots t 1).cast nbuf1_1)
/-- Region 1's staging buffer of window 2 at a point. -/
abbrev ms1_2 (t : Fin cfg1.N) : Memref sig .tc .vmem S8192x256 .i8 := win1_2.stage (cfg1.slots t 2)
/-- The staging buffer of region 1's window 2 is a whole buffer. -/
abbrev hs1_2 (t : Fin cfg1.N) : (ms1_2 t).IsWhole := hstage1_2 ((cfg1.slots t 2).cast nbuf1_2)
/-- Region 1's staging buffer of window 3 at a point. -/
abbrev ms1_3 (t : Fin cfg1.N) : Memref sig .tc .vmem S8192x256 .i8 := win1_3.stage (cfg1.slots t 3)
/-- The staging buffer of region 1's window 3 is a whole buffer. -/
abbrev hs1_3 (t : Fin cfg1.N) : (ms1_3 t).IsWhole := hstage1_3 ((cfg1.slots t 3).cast nbuf1_3)
/-- Region 1's staging buffer of window 4 at a point. -/
abbrev ms1_4 (t : Fin cfg1.N) : Memref sig .tc .vmem S1x256 .f32 := win1_4.stage (cfg1.slots t 4)
/-- The staging buffer of region 1's window 4 is a whole buffer. -/
abbrev hs1_4 (t : Fin cfg1.N) : (ms1_4 t).IsWhole := hstage1_4 ((cfg1.slots t 4).cast nbuf1_4)
/-- Region 1's staging buffer of window 5 at a point. -/
abbrev ms1_5 (t : Fin cfg1.N) : Memref sig .tc .vmem S1x256 .f32 := win1_5.stage (cfg1.slots t 5)
/-- The staging buffer of region 1's window 5 is a whole buffer. -/
abbrev hs1_5 (t : Fin cfg1.N) : (ms1_5 t).IsWhole := hstage1_5 ((cfg1.slots t 5).cast nbuf1_5)
/-- Region 1's staging buffer of window 6 at a point. -/
abbrev ms1_6 (t : Fin cfg1.N) : Memref sig .tc .vmem S1024x256 .f32 := win1_6.stage (cfg1.slots t 6)
/-- The staging buffer of region 1's window 6 is a whole buffer. -/
abbrev hs1_6 (t : Fin cfg1.N) : (ms1_6 t).IsWhole := hstage1_6 ((cfg1.slots t 6).cast nbuf1_6)
/-- Region 1's staging buffer of window 7 at a point. -/
abbrev ms1_7 (t : Fin cfg1.N) : Memref sig .tc .vmem S1024x128 .f32 := win1_7.stage (cfg1.slots t 7)
/-- The staging buffer of region 1's window 7 is a whole buffer. -/
abbrev hs1_7 (t : Fin cfg1.N) : (ms1_7 t).IsWhole := hstage1_7 ((cfg1.slots t 7).cast nbuf1_7)

-- (the run's proof term is large: the definition's epilogue — `abstractNestedProofs` — walks it past the default budget)
set_option maxHeartbeats 1000000 in
/-- What the body's stores leave in each output's staging memref, as pieces (last first) IN CASE A (`scf.if` 0 taken: points 0, 72, … 504: 8 of 576), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : cond1_0 i)
    (x0 : Vec F S1024x8192 .i8) (x1 : Vec F S1024x128 .f32) (x2 : Vec F S8192x256 .i8) (x3 : Vec F S8192x256 .i8) (x4 : Vec F S1x256 .f32) (x5 : Vec F S1x256 .f32) :
    Σ' (L6 : List (View.Piece (Elt F) S1024x256 .f32)), { L7 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc1_gate_up i arg2 harg2 arg3 harg3 arg4 harg4 arg5 harg5 arg6 harg6 arg7 harg7 arg8 harg8 arg9 harg9) K } := by
  refine ⟨?_, ?_, fun E K => ?run⟩
  case run =>
    simp only [cc1_gate_up_eq_skeleton]; unfold cc1_gate_up_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- Case A's pieces for output 6 tile its block (1 store of `S1024x256`, checked by the kernel's evaluation: Lib/Ring.lean `Piece.tiledL`, linear in the pieces, through a loop's `@[irreducible]` trip theorem too), so they cover it. -/
theorem cover1_A_6 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : cond1_0 i)
    (x0 : Vec F S1024x8192 .i8) (x1 : Vec F S1024x128 .f32) (x2 : Vec F S8192x256 .i8) (x3 : Vec F S8192x256 .i8) (x4 : Vec F S1x256 .f32) (x5 : Vec F S1x256 .f32) (y : S1024x256.Idx) :
    ∃ pc ∈ (kernelRun1_A c i arg2 harg2 arg3 harg3 arg4 harg4 arg5 harg5 arg6 harg6 arg7 harg7 arg8 harg8 arg9 harg9 hc0 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 x0 x1 x2 x3 x4 x5).1 S1024x256.size (by sl_kernel_rfl) y

/-- What case A leaves in output 6's staging buffer: its pieces read back over junk. -/
def out1_A_6 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : cond1_0 i)
    (x0 : Vec F S1024x8192 .i8) (x1 : Vec F S1024x128 .f32) (x2 : Vec F S8192x256 .i8) (x3 : Vec F S8192x256 .i8) (x4 : Vec F S1x256 .f32) (x5 : Vec F S1x256 .f32) : Vec F S1024x256 .f32 :=
  VO1_6.read (Elt F) (VO1_6.writes (Elt F) VO1_6.junk (kernelRun1_A c i arg2 harg2 arg3 harg3 arg4 harg4 arg5 harg5 arg6 harg6 arg7 harg7 arg8 harg8 arg9 harg9 hc0 x0 x1 x2 x3 x4 x5).1)

/-- Case A's pieces for output 7 tile its block (2 stores of `S1024x128`, checked by the kernel's evaluation: Lib/Ring.lean `Piece.tiledL`, linear in the pieces, through a loop's `@[irreducible]` trip theorem too), so they cover it. -/
theorem cover1_A_7 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : cond1_0 i)
    (x0 : Vec F S1024x8192 .i8) (x1 : Vec F S1024x128 .f32) (x2 : Vec F S8192x256 .i8) (x3 : Vec F S8192x256 .i8) (x4 : Vec F S1x256 .f32) (x5 : Vec F S1x256 .f32) (y : S1024x128.Idx) :
    ∃ pc ∈ (kernelRun1_A c i arg2 harg2 arg3 harg3 arg4 harg4 arg5 harg5 arg6 harg6 arg7 harg7 arg8 harg8 arg9 harg9 hc0 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 x0 x1 x2 x3 x4 x5).2.1 S1024x128.size (by sl_kernel_rfl) y

/-- What case A leaves in output 7's staging buffer: its pieces read back over junk. -/
def out1_A_7 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : cond1_0 i)
    (x0 : Vec F S1024x8192 .i8) (x1 : Vec F S1024x128 .f32) (x2 : Vec F S8192x256 .i8) (x3 : Vec F S8192x256 .i8) (x4 : Vec F S1x256 .f32) (x5 : Vec F S1x256 .f32) : Vec F S1024x128 .f32 :=
  VO1_7.read (Elt F) (VO1_7.writes (Elt F) VO1_7.junk (kernelRun1_A c i arg2 harg2 arg3 harg3 arg4 harg4 arg5 harg5 arg6 harg6 arg7 harg7 arg8 harg8 arg9 harg9 hc0 x0 x1 x2 x3 x4 x5).2.1)

-- (the run's proof term is large: the definition's epilogue — `abstractNestedProofs` — walks it past the default budget)
set_option maxHeartbeats 1000000 in
/-- What the body's stores leave in each output's staging memref, as pieces (last first) IN CASE B (`scf.if` 0 not taken: points 1, 2, … 575: 568 of 576), WITH the
    proof that on whole staging memrefs — the inputs' at their contents, the outputs it reads before covering (7) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : ¬cond1_0 i)
    (x0 : Vec F S1024x8192 .i8) (x1 : Vec F S1024x128 .f32) (x2 : Vec F S8192x256 .i8) (x3 : Vec F S8192x256 .i8) (x4 : Vec F S1x256 .f32) (x5 : Vec F S1x256 .f32) (xo7 : Vec F S1024x128 .f32) :
    Σ' (L6 : List (View.Piece (Elt F) S1024x256 .f32)), { L7 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc1_gate_up i arg2 harg2 arg3 harg3 arg4 harg4 arg5 harg5 arg6 harg6 arg7 harg7 arg8 harg8 arg9 harg9) K } := by
  refine ⟨?_, ?_, fun E K => ?run⟩
  case run =>
    simp only [cc1_gate_up_eq_skeleton]; unfold cc1_gate_up_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- Case B's pieces for output 6 tile its block (1 store of `S1024x256`, checked by the kernel's evaluation: Lib/Ring.lean `Piece.tiledL`, linear in the pieces, through a loop's `@[irreducible]` trip theorem too), so they cover it. -/
theorem cover1_B_6 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : ¬cond1_0 i)
    (x0 : Vec F S1024x8192 .i8) (x1 : Vec F S1024x128 .f32) (x2 : Vec F S8192x256 .i8) (x3 : Vec F S8192x256 .i8) (x4 : Vec F S1x256 .f32) (x5 : Vec F S1x256 .f32) (xo7 : Vec F S1024x128 .f32) (y : S1024x256.Idx) :
    ∃ pc ∈ (kernelRun1_B c i arg2 harg2 arg3 harg3 arg4 harg4 arg5 harg5 arg6 harg6 arg7 harg7 arg8 harg8 arg9 harg9 hc0 x0 x1 x2 x3 x4 x5 xo7).1, y ∈ pc.1.set :=
  View.cover_of_tiledL (kernelRun1_B c i arg2 harg2 arg3 harg3 arg4 harg4 arg5 harg5 arg6 harg6 arg7 harg7 arg8 harg8 arg9 harg9 hc0 x0 x1 x2 x3 x4 x5 xo7).1 S1024x256.size (by sl_kernel_rfl) y

/-- What case B leaves in output 6's staging buffer: its pieces read back over junk. -/
def out1_B_6 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : ¬cond1_0 i)
    (x0 : Vec F S1024x8192 .i8) (x1 : Vec F S1024x128 .f32) (x2 : Vec F S8192x256 .i8) (x3 : Vec F S8192x256 .i8) (x4 : Vec F S1x256 .f32) (x5 : Vec F S1x256 .f32) (xo7 : Vec F S1024x128 .f32) : Vec F S1024x256 .f32 :=
  VO1_6.read (Elt F) (VO1_6.writes (Elt F) VO1_6.junk (kernelRun1_B c i arg2 harg2 arg3 harg3 arg4 harg4 arg5 harg5 arg6 harg6 arg7 harg7 arg8 harg8 arg9 harg9 hc0 x0 x1 x2 x3 x4 x5 xo7).1)

/-- Case B's pieces for output 7 tile its block (1 store of `S1024x128`, checked by the kernel's evaluation: Lib/Ring.lean `Piece.tiledL`, linear in the pieces, through a loop's `@[irreducible]` trip theorem too), so they cover it. -/
theorem cover1_B_7 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : ¬cond1_0 i)
    (x0 : Vec F S1024x8192 .i8) (x1 : Vec F S1024x128 .f32) (x2 : Vec F S8192x256 .i8) (x3 : Vec F S8192x256 .i8) (x4 : Vec F S1x256 .f32) (x5 : Vec F S1x256 .f32) (xo7 : Vec F S1024x128 .f32) (y : S1024x128.Idx) :
    ∃ pc ∈ (kernelRun1_B c i arg2 harg2 arg3 harg3 arg4 harg4 arg5 harg5 arg6 harg6 arg7 harg7 arg8 harg8 arg9 harg9 hc0 x0 x1 x2 x3 x4 x5 xo7).2.1, y ∈ pc.1.set :=
  View.cover_of_tiledL (kernelRun1_B c i arg2 harg2 arg3 harg3 arg4 harg4 arg5 harg5 arg6 harg6 arg7 harg7 arg8 harg8 arg9 harg9 hc0 x0 x1 x2 x3 x4 x5 xo7).2.1 S1024x128.size (by sl_kernel_rfl) y

/-- What case B leaves in output 7's staging buffer: its pieces read back over junk. -/
def out1_B_7 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : ¬cond1_0 i)
    (x0 : Vec F S1024x8192 .i8) (x1 : Vec F S1024x128 .f32) (x2 : Vec F S8192x256 .i8) (x3 : Vec F S8192x256 .i8) (x4 : Vec F S1x256 .f32) (x5 : Vec F S1x256 .f32) (xo7 : Vec F S1024x128 .f32) : Vec F S1024x128 .f32 :=
  VO1_7.read (Elt F) (VO1_7.writes (Elt F) VO1_7.junk (kernelRun1_B c i arg2 harg2 arg3 harg3 arg4 harg4 arg5 harg5 arg6 harg6 arg7 harg7 arg8 harg8 arg9 harg9 hc0 x0 x1 x2 x3 x4 x5 xo7).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x256 .f32 × Vec F S1024x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 72 = 0 then
      (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point of case A: that case's contents. -/
theorem outsAt1_A (c : Dev nD) (t : Fin cfg1.N) (h0 : t.val % 72 = 0) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 72 = 0) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What window 1's staging buffer holds after a point of region 1. -/
theorem after1_1 (c : Dev nD) (t : Fin cfg1.N) : (dat1 V c).after 1 t = iblk1 V c 1 t := by dsimp only [dat1]
/-- What window 2's staging buffer holds after a point of region 1. -/
theorem after1_2 (c : Dev nD) (t : Fin cfg1.N) : (dat1 V c).after 2 t = iblk1 V c 2 t := by dsimp only [dat1]
/-- What window 3's staging buffer holds after a point of region 1. -/
theorem after1_3 (c : Dev nD) (t : Fin cfg1.N) : (dat1 V c).after 3 t = iblk1 V c 3 t := by dsimp only [dat1]
/-- What window 4's staging buffer holds after a point of region 1. -/
theorem after1_4 (c : Dev nD) (t : Fin cfg1.N) : (dat1 V c).after 4 t = iblk1 V c 4 t := by dsimp only [dat1]
/-- What window 5's staging buffer holds after a point of region 1. -/
theorem after1_5 (c : Dev nD) (t : Fin cfg1.N) : (dat1 V c).after 5 t = iblk1 V c 5 t := by dsimp only [dat1]
/-- What window 6's staging buffer holds after a point of region 1. -/
theorem after1_6 (c : Dev nD) (t : Fin cfg1.N) : (dat1 V c).after 6 t = (outsAt1 V c t.val t.isLt).1 := by dsimp only [dat1]
/-- What window 7's staging buffer holds after a point of region 1. -/
theorem after1_7 (c : Dev nD) (t : Fin cfg1.N) : (dat1 V c).after 7 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What window 1's staging buffer holds before a point of region 1: its block. -/
theorem before1_1 (c : Dev nD) (t : Fin cfg1.N) (d) : (dat1 V c).before 1 t d = iblk1 V c 1 t :=
  before1_1_of V (dat1 V c) (A_eq1 V c 1) (after1_1 V c) t d
/-- What window 2's staging buffer holds before a point of region 1: its block. -/
theorem before1_2 (c : Dev nD) (t : Fin cfg1.N) (d) : (dat1 V c).before 2 t d = iblk1 V c 2 t :=
  before1_2_of V (dat1 V c) (A_eq1 V c 2) (after1_2 V c) t d
/-- What window 3's staging buffer holds before a point of region 1: its block. -/
theorem before1_3 (c : Dev nD) (t : Fin cfg1.N) (d) : (dat1 V c).before 3 t d = iblk1 V c 3 t :=
  before1_3_of V (dat1 V c) (A_eq1 V c 3) (after1_3 V c) t d
/-- What window 4's staging buffer holds before a point of region 1: its block. -/
theorem before1_4 (c : Dev nD) (t : Fin cfg1.N) (d) : (dat1 V c).before 4 t d = iblk1 V c 4 t :=
  before1_4_of V (dat1 V c) (A_eq1 V c 4) (after1_4 V c) t d
/-- What window 5's staging buffer holds before a point of region 1: its block. -/
theorem before1_5 (c : Dev nD) (t : Fin cfg1.N) (d) : (dat1 V c).before 5 t d = iblk1 V c 5 t :=
  before1_5_of V (dat1 V c) (A_eq1 V c 5) (after1_5 V c) t d
/-- At a point of case B output 7's current staging buffer holds what the body left at the point before: the point is
    not the first, the buffer was not written back between (`flush1_7`), the window is live and uncut (Lib/Pipeline/Frame.lean
    `Dat.before_out_kept`). -/
theorem before1_7_B (c : Dev nD) (t : Fin cfg1.N) (h0 : ¬t.val % 72 = 0) (d) :
    (dat1 V c).before 7 t d = (outsAt1 V c (t.val - 1) (Nat.lt_of_le_of_lt (Nat.sub_le _ _) t.isLt)).2 := by
  have hN : t.val < 576 := lt_of_lt_of_eq t.isLt (show cfg1.N = 576 from N_1)
  rw [Dat.before_out_kept _ 7 rfl t (by omega) (Bool.eq_false_iff.mpr fun h => by have := (flush1_7 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 1600000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  have hN : t.val < 576 := lt_of_lt_of_eq t.isLt (show cfg1.N = 576 from N_1)
  by_cases h0 : t.val % 72 = 0
  · rw [outsAt1_A V c t h0]
    unfold out1_A_6 out1_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_A_6 c _ _ _ _ _ _ _ _ _ _ _ _ _ _ _ _ _ _ _ _ _ _ _ _)
    unfold owns; iexists _; isplitr
    swap; · iexact H7
    ipureintro; exact View.read_writes_of_cover _ _ _ _ _ (cover1_A_7 c _ _ _ _ _ _ _ _ _ _ _ _ _ _ _ _ _ _ _ _ _ _ _ _)
  · rw [outsAt1_B V c t h0]
    simp only [before1_7_B V c t h0]
    unfold out1_B_6 out1_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_B c (grid1.coords t) _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_B_6 c _ _ _ _ _ _ _ _ _ _ _ _ _ _ _ _ _ _ _ _ _ _ _ _ _)
    unfold owns; iexists _; isplitr
    swap; · iexact H7
    ipureintro; exact View.read_writes_of_cover _ _ _ _ _ (cover1_B_7 c _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Fr

end
-- ==== Proof.Kernel.Reg2.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Region 2 of the program, the `qkv` call: what its body leaves in every window at every grid point, the pipeline's
   proof data over the contents `V` it is entered with, and its body obligation. -/

@[expose] public section

-- membership in a rectangle of production extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data over `V` that leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, for any proof data over `V` that leaves it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, for any proof data over `V` that leaves it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, for any proof data over `V` that leaves it in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- A rectangle that region 2 reads or writes. -/
abbrev r2_0 : Rect S1024x8192 := Rect.unit (s := S1024x8192) ![0, 0] S1024x8192.size inb_S1024x8192_S1024x8192_0_0
/-- A rectangle that region 2 reads or writes. -/
abbrev r2_1 : Rect S8192x512 := Rect.unit (s := S8192x512) ![0, 0] S8192x512.size inb_S8192x512_S8192x512_0_0
/-- A rectangle that region 2 reads or writes. -/
abbrev r2_2 : Rect S1024x128 := Rect.unit (s := S1024x128) ![0, 0] S1024x1.size inb_S1024x128_S1024x1_0_0
/-- A rectangle that region 2 reads or writes. -/
abbrev r2_3 : Rect S1x512 := Rect.unit (s := S1x512) ![0, 0] S1x512.size inb_S1x512_S1x512_0_0
/-- A rectangle that region 2 reads or writes. -/
abbrev r2_4 : Rect S1024x512 := Rect.unit (s := S1024x512) ![0, 0] S1024x512.size inb_S1024x512_S1024x512_0_0

/-! ## What the body leaves in each output window's buffer -/

/-- Window 4's staging buffer after the body, from the input windows' blocks: its 1 store as pieces, LAST
    FIRST (Lib/Pipeline/FrameBody.lean `View.canon`; the payloads are the skeleton's). -/
def out2_4 (x0 : Vec F S1024x8192 .i8) (x1 : Vec F S1024x128 .f32) (x2 : Vec F S8192x512 .i8) (x3 : Vec F S1x512 .f32) : Vec F S1024x512 .bf16 :=
  View.canon [⟨r2_4, k2_pay1 (View.ld x0 r2_0) (View.ld x2 r2_1) (View.ld x1 r2_2) (View.ld x3 r2_3)⟩]

/-- Its stores tile the buffer (checked by evaluation), so they cover it. -/
theorem cover2_4 (p0 : Vec F S1024x512 .bf16) (y : S1024x512.Idx) :
    ∃ pc ∈ ([⟨r2_4, p0⟩] : List (View.Piece (Elt F) S1024x512 .bf16)), y ∈ pc.1.set :=
  View.cover_of_tiled [⟨r2_4, p0⟩] S1024x512.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg2 : Memref sig .tc .vmem S1024x8192 .i8) (harg2 : arg2.IsWhole) (arg3 : Memref sig .tc .vmem S1024x128 .f32) (harg3 : arg3.IsWhole) (arg4 : Memref sig .tc .vmem S8192x512 .i8) (harg4 : arg4.IsWhole) (arg5 : Memref sig .tc .vmem S1x512 .f32) (harg5 : arg5.IsWhole) (arg6 : Memref sig .tc .vmem S1024x512 .bf16) (harg6 : arg6.IsWhole)
    (x0 : Vec F S1024x8192 .i8) (x1 : Vec F S1024x128 .f32) (x2 : Vec F S8192x512 .i8) (x3 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2_qkv i arg2 harg2 arg3 harg3 arg4 harg4 arg5 harg5 arg6 harg6) K := by
  simp only [cc2_qkv_eq_skeleton]; unfold cc2_qkv_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
/-- What window 1's staging buffer holds after a point of region 2. -/
theorem after2_1 (c : Dev nD) (t : Fin cfg2.N) : (dat2 V c).after 1 t = iblk2 V c 1 t := by dsimp only [dat2]
/-- What window 2's staging buffer holds after a point of region 2. -/
theorem after2_2 (c : Dev nD) (t : Fin cfg2.N) : (dat2 V c).after 2 t = iblk2 V c 2 t := by dsimp only [dat2]
/-- What window 3's staging buffer holds after a point of region 2. -/
theorem after2_3 (c : Dev nD) (t : Fin cfg2.N) : (dat2 V c).after 3 t = iblk2 V c 3 t := by dsimp only [dat2]
/-- What window 4's staging buffer holds after a point of region 2. -/
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
/-- What window 1's staging buffer holds before a point of region 2: its block. -/
theorem before2_1 (c : Dev nD) (t : Fin cfg2.N) (d) : (dat2 V c).before 1 t d = iblk2 V c 1 t :=
  before2_1_of V (dat2 V c) (A_eq2 V c 1) (after2_1 V c) t d
/-- What window 2's staging buffer holds before a point of region 2: its block. -/
theorem before2_2 (c : Dev nD) (t : Fin cfg2.N) (d) : (dat2 V c).before 2 t d = iblk2 V c 2 t :=
  before2_2_of V (dat2 V c) (A_eq2 V c 2) (after2_2 V c) t d
/-- What window 3's staging buffer holds before a point of region 2: its block. -/
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Kernel.Fr

end
-- ==== Proof.Kernel.Reg3.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Region 3 of the program, the `h_quant` call: what its body leaves in every window at every grid point, the pipeline's
   proof data over the contents `V` it is entered with, and its body obligation. -/

@[expose] public section

-- membership in a rectangle of production extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data over `V` that leaves it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, for any proof data over `V` that leaves it in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- A rectangle that region 3 reads or writes. -/
abbrev r3_0 : Rect S128x18432 := Rect.unit (s := S128x18432) ![0, 0] S128x18432.size inb_S128x18432_S128x18432_0_0
/-- A rectangle that region 3 reads or writes. -/
abbrev r3_1 : Rect S128x128 := Rect.unit (s := S128x128) ![0, 0] S128x1.size inb_S128x128_S128x1_0_0
/-- A rectangle that region 3 reads or writes. -/
abbrev r3_2 : Rect S128x128 := Rect.unit (s := S128x128) ![0, 0] S128x128.size inb_S128x128_S128x128_0_0

/-! ## What the body leaves in each output window's buffer -/

/-- Window 2's staging buffer after the body, from the input windows' blocks: its 1 store as pieces, LAST
    FIRST (Lib/Pipeline/FrameBody.lean `View.canon`; the payloads are the skeleton's). -/
def out3_2 (x0 : Vec F S128x18432 .f32) (x1 : Vec F S128x128 .f32) : Vec F S128x18432 .i8 :=
  View.canon [⟨r3_0, k3_pay2 (View.ld x0 r3_0) (View.ld x1 r3_1)⟩]

/-- Its stores tile the buffer (checked by evaluation), so they cover it. -/
theorem cover3_2 (p0 : Vec F S128x18432 .i8) (y : S128x18432.Idx) :
    ∃ pc ∈ ([⟨r3_0, p0⟩] : List (View.Piece (Elt F) S128x18432 .i8)), y ∈ pc.1.set :=
  View.cover_of_tiled [⟨r3_0, p0⟩] S128x18432.size (by rfl) y

/-- Window 3's staging buffer after the body, from the input windows' blocks: its 1 store as pieces, LAST
    FIRST (Lib/Pipeline/FrameBody.lean `View.canon`; the payloads are the skeleton's). -/
def out3_3 (x0 : Vec F S128x18432 .f32) (x1 : Vec F S128x128 .f32) : Vec F S128x128 .f32 :=
  View.canon [⟨r3_2, k3_pay3 (View.ld x1 r3_1)⟩]

/-- Its stores tile the buffer (checked by evaluation), so they cover it. -/
theorem cover3_3 (p0 : Vec F S128x128 .f32) (y : S128x128.Idx) :
    ∃ pc ∈ ([⟨r3_2, p0⟩] : List (View.Piece (Elt F) S128x128 .f32)), y ∈ pc.1.set :=
  View.cover_of_tiled [⟨r3_2, p0⟩] S128x128.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S128x18432 .f32) (harg1 : arg1.IsWhole) (arg2 : Memref sig .tc .vmem S128x128 .f32) (harg2 : arg2.IsWhole) (arg3 : Memref sig .tc .vmem S128x18432 .i8) (harg3 : arg3.IsWhole) (arg4 : Memref sig .tc .vmem S128x128 .f32) (harg4 : arg4.IsWhole)
    (x0 : Vec F S128x18432 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare (out3_3 x0 x1)) -∗ K ⟨⟩))
      ⊢ wp frame (wpE (defs₀ (F := F)) Variants.none c none) E (cc3_h_quant i arg1 harg1 arg2 harg2 arg3 harg3 arg4 harg4) K := by
  simp only [cc3_h_quant_eq_skeleton]; unfold cc3_h_quant_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3_2 _)
  iexists _; isplitr
  swap; · iexact H3
  ipureintro
  exact View.read_writes_eq_canon _ _ _ (cover3_3 _)

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
/-- What window 1's staging buffer holds after a point of region 3. -/
theorem after3_1 (c : Dev nD) (t : Fin cfg3.N) : (dat3 V c).after 1 t = iblk3 V c 1 t := by dsimp only [dat3]
/-- What window 2's staging buffer holds after a point of region 3. -/
theorem after3_2 (c : Dev nD) (t : Fin cfg3.N) : (dat3 V c).after 2 t = out3_2 (iblk3 V c 0 t) (iblk3 V c 1 t) := by dsimp only [dat3]
/-- What window 3's staging buffer holds after a point of region 3. -/
theorem after3_3 (c : Dev nD) (t : Fin cfg3.N) : (dat3 V c).after 3 t = out3_3 (iblk3 V c 0 t) (iblk3 V c 1 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
/-- What window 1's staging buffer holds before a point of region 3: its block. -/
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.Kernel.Fr

end
-- ==== Proof.Kernel.Reg4.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Region 4 of the program, the `down` call: its windows' blocks, the two branch conditions in closed form over the
   grid points, where the output window is idle, and the scratch buffer carried from point to point. -/

@[expose] public section

-- membership in a rectangle of production extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data over `V` that leaves it in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, for any proof data over `V` that leaves it in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, for any proof data over `V` that leaves it in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, for any proof data over `V` that leaves it in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, for any proof data over `V` that leaves it in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's `scf.if` 0 (`k4_h1`), from the grid coordinates (the skeleton's scalar
    chain substituted). -/
abbrev cond4_0 (i : grid4.Coords) : Prop := (Scalar.cmpi .ne (Scalar.extui (Scalar.cmpi .eq (BitVec.ofNat 32 (i 2).val) 0#32)) 0#32) = 1#1
/-- It holds at the points ≡ 0 (mod 4) — by arithmetic of the point. -/
theorem hcond4_0 : ∀ t : Fin cfg4.N, cond4_0 (grid4.coords t) ↔ t.val % 4 = 0 :=
  (fun t => by
    have ht : t.val < 256 := Nat.lt_of_lt_of_eq t.isLt N_4
    have e0 : (grid4.coords t 0).val = t.val / 32 % 8 := Pipeline.Grid.coords_val t 0 (by decide) rfl
    have e1 : (grid4.coords t 1).val = t.val / 4 % 8 := Pipeline.Grid.coords_val t 1 (by decide) rfl
    have e2 : (grid4.coords t 2).val = t.val / 1 % 4 := Pipeline.Grid.coords_val t 2 (by decide) rfl
    simp only [cond4_0, e0, e1, e2]
    word_cmp
   : ∀ t : Fin grid4.N, cond4_0 (grid4.coords t) ↔ t.val % 4 = 0)

/-- The condition of the body's `scf.if` 1 (`k4_h2`), from the grid coordinates (the skeleton's scalar
    chain substituted). -/
abbrev cond4_1 (i : grid4.Coords) : Prop := k4_cond2 i = 1#1
/-- It holds at the points ≡ 3 (mod 4) — by arithmetic of the point. -/
theorem hcond4_1 : ∀ t : Fin cfg4.N, cond4_1 (grid4.coords t) ↔ t.val % 4 = 3 :=
  (fun t => by
    have ht : t.val < 256 := Nat.lt_of_lt_of_eq t.isLt N_4
    have e0 : (grid4.coords t 0).val = t.val / 32 % 8 := Pipeline.Grid.coords_val t 0 (by decide) rfl
    have e1 : (grid4.coords t 1).val = t.val / 4 % 8 := Pipeline.Grid.coords_val t 1 (by decide) rfl
    have e2 : (grid4.coords t 2).val = t.val / 1 % 4 := Pipeline.Grid.coords_val t 2 (by decide) rfl
    simp only [cond4_1, k4_cond2, e0, e1, e2]
    word_cmp
   : ∀ t : Fin grid4.N, cond4_1 (grid4.coords t) ↔ t.val % 4 = 3)

/-! ## Where the windows are idle (the printed configuration's table `Cfg.idle`) -/

/-- Window 0 is never idle (an input). -/
theorem liveAt4_0 : ∀ t : Fin cfg4.N, cfg4.idle 0 (grid4.coords t) = false := fun _ => rfl
/-- Window 1 is never idle (an input). -/
theorem liveAt4_1 : ∀ t : Fin cfg4.N, cfg4.idle 1 (grid4.coords t) = false := fun _ => rfl
/-- Window 2 is never idle (an input). -/
theorem liveAt4_2 : ∀ t : Fin cfg4.N, cfg4.idle 2 (grid4.coords t) = false := fun _ => rfl
/-- Window 3 is never idle (an input). -/
theorem liveAt4_3 : ∀ t : Fin cfg4.N, cfg4.idle 3 (grid4.coords t) = false := fun _ => rfl
/-- Window 4 is never idle (an input). -/
theorem liveAt4_4 : ∀ t : Fin cfg4.N, cfg4.idle 4 (grid4.coords t) = false := fun _ => rfl
/-- At the points of case A the printed configuration (`Cfg.idle`) calls output 5 idle: the case stores nothing into it. -/
theorem idleAt4_5_A : ∀ t : Fin cfg4.N, cond4_0 (grid4.coords t) → ¬cond4_1 (grid4.coords t) → cfg4.idle 5 (grid4.coords t) = true := by decide +kernel
/-- At the points of case A the pipeline does not write output 5's block back. -/
theorem noFlush4_5_A : ∀ t : Fin cfg4.N, cond4_0 (grid4.coords t) → ¬cond4_1 (grid4.coords t) → (cfg4.win 5).flush t = false := by decide +kernel
/-- At the points of case B the printed configuration (`Cfg.idle`) calls output 5 idle: the case stores nothing into it. -/
theorem idleAt4_5_B : ∀ t : Fin cfg4.N, ¬cond4_0 (grid4.coords t) → ¬cond4_1 (grid4.coords t) → cfg4.idle 5 (grid4.coords t) = true := by decide +kernel
/-- At the points of case B the pipeline does not write output 5's block back. -/
theorem noFlush4_5_B : ∀ t : Fin cfg4.N, ¬cond4_0 (grid4.coords t) → ¬cond4_1 (grid4.coords t) → (cfg4.win 5).flush t = false := by decide +kernel
/-- At the points of case C the printed configuration (`Cfg.idle`) calls output 5 live: the case stores into it. -/
theorem liveAt4_5_C : ∀ t : Fin cfg4.N, ¬cond4_0 (grid4.coords t) → cond4_1 (grid4.coords t) → cfg4.idle 5 (grid4.coords t) = false := by decide +kernel

/-! ## The kernel body on any staging memrefs: a subtype the run finds -/

/-- One staging buffer of output window 5, through which its contents are stated (`View.read_writes_of_cover`: the
    choice does not matter). -/
abbrev VO4_5 : View sig .tc .vmem S1024x1024 .bf16 := (Memref.whole cc4_stg5_0 : Memref sig .tc .vmem S1024x1024 .bf16).view
/-- Each window's current staging memref at point `t`, spelled as the pipeline passes it (`bodyAt4`), and its wholeness. -/
abbrev ms4_0 (t : Fin cfg4.N) : Memref sig .tc .vmem S1024x4608 .i8 := win4_0.stage (cfg4.slots t 0)
/-- The staging buffer of region 4's window 0 is a whole buffer. -/
abbrev hs4_0 (t : Fin cfg4.N) : (ms4_0 t).IsWhole := hstage4_0 ((cfg4.slots t 0).cast nbuf4_0)
/-- Region 4's staging buffer of window 1 at a point. -/
abbrev ms4_1 (t : Fin cfg4.N) : Memref sig .tc .vmem S1024x128 .f32 := win4_1.stage (cfg4.slots t 1)
/-- The staging buffer of region 4's window 1 is a whole buffer. -/
abbrev hs4_1 (t : Fin cfg4.N) : (ms4_1 t).IsWhole := hstage4_1 ((cfg4.slots t 1).cast nbuf4_1)
/-- Region 4's staging buffer of window 2 at a point. -/
abbrev ms4_2 (t : Fin cfg4.N) : Memref sig .tc .vmem S4608x1024 .i8 := win4_2.stage (cfg4.slots t 2)
/-- The staging buffer of region 4's window 2 is a whole buffer. -/
abbrev hs4_2 (t : Fin cfg4.N) : (ms4_2 t).IsWhole := hstage4_2 ((cfg4.slots t 2).cast nbuf4_2)
/-- Region 4's staging buffer of window 3 at a point. -/
abbrev ms4_3 (t : Fin cfg4.N) : Memref sig .tc .vmem S1x1024 .f32 := win4_3.stage (cfg4.slots t 3)
/-- The staging buffer of region 4's window 3 is a whole buffer. -/
abbrev hs4_3 (t : Fin cfg4.N) : (ms4_3 t).IsWhole := hstage4_3 ((cfg4.slots t 3).cast nbuf4_3)
/-- Region 4's staging buffer of window 4 at a point. -/
abbrev ms4_4 (t : Fin cfg4.N) : Memref sig .tc .vmem S1024x1024 .bf16 := win4_4.stage (cfg4.slots t 4)
/-- The staging buffer of region 4's window 4 is a whole buffer. -/
abbrev hs4_4 (t : Fin cfg4.N) : (ms4_4 t).IsWhole := hstage4_4 ((cfg4.slots t 4).cast nbuf4_4)
/-- Region 4's staging buffer of window 5 at a point. -/
abbrev ms4_5 (t : Fin cfg4.N) : Memref sig .tc .vmem S1024x1024 .bf16 := win4_5.stage (cfg4.slots t 5)
/-- The staging buffer of region 4's window 5 is a whole buffer. -/
abbrev hs4_5 (t : Fin cfg4.N) : (ms4_5 t).IsWhole := hstage4_5 ((cfg4.slots t 5).cast nbuf4_5)
/-- The scratch operand: a whole scoped buffer of the call's own. -/
abbrev scM4_0 : Memref sig .tc .vmem S1024x1024 .f32 := Memref.whole cc4_scratch0

/-- `Gen.scopedRest4_split` as ONE chain: the kernel's own scratch buffers, each whole at some contents, then every
    other scoped buffer, unopened (`Pipeline.scopedRestBut`). -/
theorem scopedRest4_flat (c : Dev nD) :
    (Pipeline.scopedRest spec4 c : sProp 𝕄)
      = iprop((∃ f : Buf (Elt F) ((c : Thread nD τ).loc cc4_scratch0), ((c : Thread nD τ).loc cc4_scratch0) ↦{fullShare} f) ∗ Pipeline.scopedRestBut spec4 c [cc4_scratch0]) := by
  rw [scopedRest4_split]

/-- The frame kit's invariant with the scratch operands as memrefs owned at some contents (`Gen.scopedRest4_flat`,
    Lib/Memref.lean `owns_whole`): what the body obligation hands the run and takes back. -/
theorem PhiA4_eq (c : Dev nD) :
    (Pipeline.ΦA spec4 c : sProp 𝕄)
      = iprop(iprop((∃ d, owns (c : Thread nD τ) scM4_0 fullShare d) ∗ Pipeline.scopedRestBut spec4 c [cc4_scratch0]) ∗ (∃ r, prngReg c r)) := by
  unfold Pipeline.ΦA; rw [scopedRest4_flat]; simp only [scM4_0, owns_whole]; try rfl

/-- The scratch the call carries from point to point, as a view. -/
abbrev VS4_0 : View sig .tc .vmem S1024x1024 .f32 := scM4_0.view

end Cert.Kernel.Fr

end
-- ==== Proof.Kernel.Reg4A.lean ====
module

public import proofs.«01_k».proof.Proof.Kernel.Reg4

/-! The `down` body at the first point of a block's four: the scratch is cleared and the first partial product added. -/

@[expose] public section

-- membership in a rectangle of production extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 4, … 252: 64 of 256), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_A (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) :
    Σ' (L5 : List (View.Piece (Elt F) S1024x1024 .bf16)), { LS0 : List (View.Piece (Elt F) S1024x1024 .f32) //
      ∀ (xi5 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc4_down i arg3 harg3 arg4 harg4 arg5 harg5 arg6 harg6 arg7 harg7 arg8 harg8 arg9 harg9) K } := by
  refine ⟨[], ?_, fun xi5 E K => ?run⟩
  case run =>
    simp only [cc4_down_eq_skeleton]; unfold cc4_down_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.Kernel.Reg4B.lean ====
module

public import proofs.«01_k».proof.Proof.Kernel.Reg4A

/-! The `down` body at the two middle points: a partial product is added to the scratch. -/

@[expose] public section

-- membership in a rectangle of production extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 254: 128 of 256), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_B (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) :
    Σ' (L5 : List (View.Piece (Elt F) S1024x1024 .bf16)), { LS0 : List (View.Piece (Elt F) S1024x1024 .f32) //
      ∀ (xi5 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc4_down i arg3 harg3 arg4 harg4 arg5 harg5 arg6 harg6 arg7 harg7 arg8 harg8 arg9 harg9) K } := by
  refine ⟨[], ?_, fun xi5 E K => ?run⟩
  case run =>
    simp only [cc4_down_eq_skeleton]; unfold cc4_down_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.Kernel.Reg4C.lean ====
module

public import proofs.«01_k».proof.Proof.Kernel.Reg4B

/-! The `down` body at the last point of a block's four: the last partial product is added and the output block stored. -/

@[expose] public section

-- membership in a rectangle of production extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken: points 3, 7, … 255: 64 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_C (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) :
    Σ' (L5 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc4_down i arg3 harg3 arg4 harg4 arg5 harg5 arg6 harg6 arg7 harg7 arg8 harg8 arg9 harg9) K } := by
  refine ⟨?_, ?_, fun E K => ?run⟩
  case run =>
    simp only [cc4_down_eq_skeleton]; unfold cc4_down_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Fr

end
-- ==== Proof.Kernel.Reg4Dat.lean ====
module

public import proofs.«01_k».proof.Proof.Kernel.Reg4C

/-! What the `down` call leaves in its output window and its carried scratch at every grid point, the pipeline's proof data,
   and its body obligation. -/

@[expose] public section

-- membership in a rectangle of production extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 5 (the window is idle at its points and not written back there):
    no pieces — a placeholder (junk read back) that nothing consults, since at these points the window is neither
    written back nor read at the next point (Lib/Pipeline.lean "Idle points"). -/
def out4_A_5 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) : Vec F S1024x1024 .bf16 :=
  VO4_5.read (Elt F) (VO4_5.writes (Elt F) VO4_5.junk (kernelRun4_A c i arg3 harg3 arg4 harg4 arg5 harg5 arg6 harg6 arg7 harg7 arg8 harg8 arg9 harg9 hc0 hc1 x0 x1 x2 x3 x4).1)

/-- Case A's pieces for scratch `arg9`, which the kernel carries between points, cover it: 2 pieces of `S1024x1024` tiling it (Lib/Ring.lean `Piece.tiledL`). -/
theorem scover4_A_0 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) (y : S1024x1024.Idx) :
    ∃ pc ∈ (kernelRun4_A c i arg3 harg3 arg4 harg4 arg5 harg5 arg6 harg6 arg7 harg7 arg8 harg8 arg9 harg9 hc0 hc1 x0 x1 x2 x3 x4).2.1, y ∈ pc.1.set :=
  View.cover_of_tiledL (kernelRun4_A c i arg3 harg3 arg4 harg4 arg5 harg5 arg6 harg6 arg7 harg7 arg8 harg8 arg9 harg9 hc0 hc1 x0 x1 x2 x3 x4).2.1 S1024x1024.size (by sl_kernel_rfl) y

/-- What case A leaves in scratch `arg9`: its pieces read back over junk. -/
def sout4_A_0 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) : Vec F S1024x1024 .f32 :=
  VS4_0.read (Elt F) (VS4_0.writes (Elt F) VS4_0.junk (kernelRun4_A c i arg3 harg3 arg4 harg4 arg5 harg5 arg6 harg6 arg7 harg7 arg8 harg8 arg9 harg9 hc0 hc1 x0 x1 x2 x3 x4).2.1)

/-- Case B stores nothing into output 5 (the window is idle at its points and not written back there):
    no pieces — a placeholder (junk read back) that nothing consults, since at these points the window is neither
    written back nor read at the next point (Lib/Pipeline.lean "Idle points"). -/
def out4_B_5 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) : Vec F S1024x1024 .bf16 :=
  VO4_5.read (Elt F) (VO4_5.writes (Elt F) VO4_5.junk (kernelRun4_B c i arg3 harg3 arg4 harg4 arg5 harg5 arg6 harg6 arg7 harg7 arg8 harg8 arg9 harg9 hc0 hc1 x0 x1 x2 x3 x4 xs0).1)

/-- Case B's pieces for scratch `arg9`, which the kernel carries between points, cover it: 1 piece of `S1024x1024` tiling it (Lib/Ring.lean `Piece.tiledL`). -/
theorem scover4_B_0 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) (y : S1024x1024.Idx) :
    ∃ pc ∈ (kernelRun4_B c i arg3 harg3 arg4 harg4 arg5 harg5 arg6 harg6 arg7 harg7 arg8 harg8 arg9 harg9 hc0 hc1 x0 x1 x2 x3 x4 xs0).2.1, y ∈ pc.1.set :=
  View.cover_of_tiledL (kernelRun4_B c i arg3 harg3 arg4 harg4 arg5 harg5 arg6 harg6 arg7 harg7 arg8 harg8 arg9 harg9 hc0 hc1 x0 x1 x2 x3 x4 xs0).2.1 S1024x1024.size (by sl_kernel_rfl) y

/-- What case B leaves in scratch `arg9`: its pieces read back over junk. -/
def sout4_B_0 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) : Vec F S1024x1024 .f32 :=
  VS4_0.read (Elt F) (VS4_0.writes (Elt F) VS4_0.junk (kernelRun4_B c i arg3 harg3 arg4 harg4 arg5 harg5 arg6 harg6 arg7 harg7 arg8 harg8 arg9 harg9 hc0 hc1 x0 x1 x2 x3 x4 xs0).2.1)

/-- Case C's pieces for output 5 tile its block (1 store of `S1024x1024`, checked by the kernel's evaluation: Lib/Ring.lean `Piece.tiledL`, linear in the pieces, through a loop's `@[irreducible]` trip theorem too), so they cover it. -/
theorem cover4_C_5 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) (y : S1024x1024.Idx) :
    ∃ pc ∈ (kernelRun4_C c i arg3 harg3 arg4 harg4 arg5 harg5 arg6 harg6 arg7 harg7 arg8 harg8 arg9 harg9 hc0 hc1 x0 x1 x2 x3 x4 xs0).1, y ∈ pc.1.set :=
  View.cover_of_tiledL (kernelRun4_C c i arg3 harg3 arg4 harg4 arg5 harg5 arg6 harg6 arg7 harg7 arg8 harg8 arg9 harg9 hc0 hc1 x0 x1 x2 x3 x4 xs0).1 S1024x1024.size (by sl_kernel_rfl) y

/-- What case C leaves in output 5's staging buffer: its pieces read back over junk. -/
def out4_C_5 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) : Vec F S1024x1024 .bf16 :=
  VO4_5.read (Elt F) (VO4_5.writes (Elt F) VO4_5.junk (kernelRun4_C c i arg3 harg3 arg4 harg4 arg5 harg5 arg6 harg6 arg7 harg7 arg8 harg8 arg9 harg9 hc0 hc1 x0 x1 x2 x3 x4 xs0).1)

/-- Case C's pieces for scratch `arg9`, which the kernel carries between points, cover it: 1 piece of `S1024x1024` tiling it (Lib/Ring.lean `Piece.tiledL`). -/
theorem scover4_C_0 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) (y : S1024x1024.Idx) :
    ∃ pc ∈ (kernelRun4_C c i arg3 harg3 arg4 harg4 arg5 harg5 arg6 harg6 arg7 harg7 arg8 harg8 arg9 harg9 hc0 hc1 x0 x1 x2 x3 x4 xs0).2.1, y ∈ pc.1.set :=
  View.cover_of_tiledL (kernelRun4_C c i arg3 harg3 arg4 harg4 arg5 harg5 arg6 harg6 arg7 harg7 arg8 harg8 arg9 harg9 hc0 hc1 x0 x1 x2 x3 x4 xs0).2.1 S1024x1024.size (by sl_kernel_rfl) y

/-- What case C leaves in scratch `arg9`: its pieces read back over junk. -/
def sout4_C_0 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) : Vec F S1024x1024 .f32 :=
  VS4_0.read (Elt F) (VS4_0.writes (Elt F) VS4_0.junk (kernelRun4_C c i arg3 harg3 arg4 harg4 arg5 harg5 arg6 harg6 arg7 harg7 arg8 harg8 arg9 harg9 hc0 hc1 x0 x1 x2 x3 x4 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before4_W_κ`). An assignment of the conditions no point meets is no case (`False.elim`). -/
def outsAt4 (c : Dev nD) : (n : ℕ) → n < cfg4.N → Vec F S1024x1024 .bf16 × Vec F S1024x1024 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h0 : (n + 1) % 4 = 0 then
      if h1 : (n + 1) % 4 = 3 then
        False.elim (by have hN : n + 1 < 256 := lt_of_lt_of_eq hn (show cfg4.N = 256 from N_4); omega)
      else
        (out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩))
    else
      if h1 : (n + 1) % 4 = 3 then
        (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2)
      else
        (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2)

/-- `outsAt4` at a point of case A: that case's contents. -/
theorem outsAt4_A (c : Dev nD) (t : Fin cfg4.N) (h0 : t.val % 4 = 0) (h1 : ¬t.val % 4 = 3) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 4 = 0) (h1 : ¬t.val % 4 = 3) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 4 = 0) (h1 : t.val % 4 = 3) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt4`'s scratch components), the others at anything, and the generator register
    at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut spec4 c [cc4_scratch0]) ∗ (∃ r, prngReg c r))

/-- Before the first point the scratch buffer is free. -/
theorem PhiS4_zero (c : Dev nD) (n : ℕ) (h : n ≤ cfg4.N) (hz : n = 0) : PhiS4 V c n h = Pipeline.ΦA spec4 c := by
  subst hz; rfl

/-- After point `n` (before point `n + 1`): the carried scratch at that point's contents. -/
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut spec4 c [cc4_scratch0]) ∗ (∃ r, prngReg c r)) := rfl

/-- Before a point that is not the first: the carried scratch at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut spec4 c [cc4_scratch0]) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt4`; the invariant the class's
    (`PhiS4`: the class's `ΦA` before the first point, then the scoped rest with the carried scratch at `outsAt4`'s component);
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
  Φ t := PhiS4 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq4 (c : Dev nD) (w : Fin cfg4.W) : (dat4 V c).A w = V c (Pipeline.arrRef spec4 w) := by
  dsimp only [dat4]

/-- The invariant at a point's start (the proof data at `t.castSucc`), restated at `t.val`. -/
theorem PhiS4_castSucc (c : Dev nD) (t : Fin cfg4.N) :
    (dat4 V c).Φ t.castSucc = PhiS4 V c t.val (Nat.le_of_lt t.isLt) := by
  dsimp only [dat4]; exact Pipeline.Dat.Φ_castSucc (PhiS4 V c) t

/-- What the body leaves, window by window (the proof data's `match` reduced by `dsimp`). -/
theorem after4_0 (c : Dev nD) (t : Fin cfg4.N) : (dat4 V c).after 0 t = iblk4 V c 0 t := by dsimp only [dat4]
/-- What window 1's staging buffer holds after a point of region 4. -/
theorem after4_1 (c : Dev nD) (t : Fin cfg4.N) : (dat4 V c).after 1 t = iblk4 V c 1 t := by dsimp only [dat4]
/-- What window 2's staging buffer holds after a point of region 4. -/
theorem after4_2 (c : Dev nD) (t : Fin cfg4.N) : (dat4 V c).after 2 t = iblk4 V c 2 t := by dsimp only [dat4]
/-- What window 3's staging buffer holds after a point of region 4. -/
theorem after4_3 (c : Dev nD) (t : Fin cfg4.N) : (dat4 V c).after 3 t = iblk4 V c 3 t := by dsimp only [dat4]
/-- What window 4's staging buffer holds after a point of region 4. -/
theorem after4_4 (c : Dev nD) (t : Fin cfg4.N) : (dat4 V c).after 4 t = iblk4 V c 4 t := by dsimp only [dat4]
/-- What window 5's staging buffer holds after a point of region 4. -/
theorem after4_5 (c : Dev nD) (t : Fin cfg4.N) : (dat4 V c).after 5 t = (outsAt4 V c t.val t.isLt).1 := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
/-- What window 1's staging buffer holds before a point of region 4: its block. -/
theorem before4_1 (c : Dev nD) (t : Fin cfg4.N) (d) : (dat4 V c).before 1 t d = iblk4 V c 1 t :=
  before4_1_of V (dat4 V c) (A_eq4 V c 1) (after4_1 V c) t d
/-- What window 2's staging buffer holds before a point of region 4: its block. -/
theorem before4_2 (c : Dev nD) (t : Fin cfg4.N) (d) : (dat4 V c).before 2 t d = iblk4 V c 2 t :=
  before4_2_of V (dat4 V c) (A_eq4 V c 2) (after4_2 V c) t d
/-- What window 3's staging buffer holds before a point of region 4: its block. -/
theorem before4_3 (c : Dev nD) (t : Fin cfg4.N) (d) : (dat4 V c).before 3 t d = iblk4 V c 3 t :=
  before4_3_of V (dat4 V c) (A_eq4 V c 3) (after4_3 V c) t d
/-- What window 4's staging buffer holds before a point of region 4: its block. -/
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point: the inputs' memrefs hold their blocks (`before4_W`); the closed forms say which case the point is in (`by_cases`), an output the case reads before covering holds what the point before left (`before4_W_κ`); so the
    run applies; the invariant hands the body the carried scratch at what the point before left (`PhiS4_pos`; at anything at the first point, `PhiS4_zero`), the other scratch buffers and the generator register at some state, and takes the carried scratch back at this point's contents (`PhiS4_succ`, by `scoverK_κ_N`); the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 256 := lt_of_lt_of_eq t.isLt (show cfg4.N = 256 from N_4)
  by_cases h0 : t.val % 4 = 0
  · by_cases h1 : t.val % 4 = 3
    · exfalso; omega
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
      by_cases hz : t.val = 0
      · rw [PhiS4_castSucc V c t, PhiS4_zero V c _ _ hz, PhiA4_eq]
        rw [outsAt4_A V c t h0 h1]
        unfold sout4_A_0; (try dsimp only)
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitr [Hr]
            swap; · iexact Hr
            unfold owns; iexists _; isplitr
            swap; · iexact HS0
            ipureintro; exact View.read_writes_of_cover _ _ _ _ _ (scover4_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS4_castSucc V c t, PhiS4_pos V c _ _ hz]
        rw [outsAt4_A V c t h0 h1]
        unfold sout4_A_0; (try dsimp only)
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hr Hg]
        · isplitl [HS0 Hr]
          · isplitr [Hr]
            swap; · iexact Hr
            unfold owns; iexists _; isplitr
            swap; · iexact HS0
            ipureintro; exact View.read_writes_of_cover _ _ _ _ _ (scover4_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [show (dat4 V c).leavesExact 5 t = owns (c : Thread nD τ) (ms4_5 t) fullShare ((dat4 V c).after 5 t) from by
      unfold Dat.leavesExact; rw [liveAt4_5_C t (fun h => h0 ((hcond4_0 t).mp h)) ((hcond4_1 t).mpr h1)], after4_5]
      by_cases hz : t.val = 0
      · exfalso; have hN : t.val < 256 := lt_of_lt_of_eq t.isLt (show cfg4.N = 256 from N_4); omega
      · rw [PhiS4_castSucc V c t, PhiS4_pos V c _ _ hz]
        rw [outsAt4_C V c t h0 h1]
        unfold out4_C_5 sout4_C_0; (try dsimp only)
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hr Hg]
        · isplitl [HS0 Hr]
          · isplitr [Hr]
            swap; · iexact Hr
            unfold owns; iexists _; isplitr
            swap; · iexact HS0
            ipureintro; exact View.read_writes_of_cover _ _ _ _ _ (scover4_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover4_C_5 c _ _ _ _ _ _ _ _ _ _ _ _ _ _ _ _ _ _ _ _ _ _ _)
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [Dat.leavesExact_idle (dat4 V c) 5 t (idleAt4_5_B t (fun h => h0 ((hcond4_0 t).mp h)) (fun h => h1 ((hcond4_1 t).mp h))) (noFlush4_5_B t (fun h => h0 ((hcond4_0 t).mp h)) (fun h => h1 ((hcond4_1 t).mp h)))]
      by_cases hz : t.val = 0
      · exfalso; have hN : t.val < 256 := lt_of_lt_of_eq t.isLt (show cfg4.N = 256 from N_4); omega
      · rw [PhiS4_castSucc V c t, PhiS4_pos V c _ _ hz]
        rw [outsAt4_B V c t h0 h1]
        unfold sout4_B_0; (try dsimp only)
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitr [Hr]
            swap; · iexact Hr
            unfold owns; iexists _; isplitr
            swap; · iexact HS0
            ipureintro; exact View.read_writes_of_cover _ _ _ _ _ (scover4_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

/-- What the launch hands the region (`ΦA`) is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives `ΦA` back: the carried scratch's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 256 := N_4; omega)

end Cert.Kernel.Fr

end
-- ==== Proof.Kernel.Bounds.lean ====
module

public import proofs.«01_k».proof.Proof.Kernel.Reg0
public import proofs.«01_k».proof.Proof.Kernel.Reg1
public import proofs.«01_k».proof.Proof.Kernel.Reg2
public import proofs.«01_k».proof.Proof.Kernel.Reg3
public import proofs.«01_k».proof.Proof.Kernel.Reg4Dat

/-! The contents of every buffer at each boundary between two calls or host stretches, as a fold from the launch memory. -/

@[expose] public section

-- membership in a rectangle of production extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
/-- Each operation of `hostOps0` writes only references listed in `hostOps0_W`. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v10, main_v11, main_v12, main_v13, main_v14, main_v15, main_v16, main_v17, main_v18, main_v19, main_v20, main_v21, main_v22, main_v23, main_v24]
/-- Each operation of `hostOps5` writes only references listed in `hostOps5_W`. -/
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are unchanged at boundary 0. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are unchanged at boundary 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
/-- At boundary 2 a window's array holds what region 0 leaves in it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- At boundary 2 a buffer that is no window's array of region 0 is as it was before the region. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are unchanged at boundary 2. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Region 0 leaves every buffer outside its windows' arrays as it was. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
/-- At boundary 3 a window's array holds what region 1 leaves in it. -/
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
/-- At boundary 3 a buffer that is no window's array of region 1 is as it was before the region. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are unchanged at boundary 3. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V2 m ρ) c).arrAt w cfg1.N = V3 m ρ c (Pipeline.arrRef spec1 w) :=
  (W3_arr m ρ c w).symm
/-- Region 1 leaves every buffer outside its windows' arrays as it was. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`) (region 3's entry). -/
def W4 (c : Dev nD) : Valuation τ sig (Elt F) :=
  Pipeline.withArrays spec2 c (W3 m ρ c) fun w => (dat2 (V3 m ρ) c).arrAt w cfg2.N
/-- At boundary 4 a window's array holds what region 2 leaves in it. -/
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
/-- At boundary 4 a buffer that is no window's array of region 2 is as it was before the region. -/
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- The arguments are unchanged at boundary 4. -/
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
/-- Region 2 leaves every buffer outside its windows' arrays as it was. -/
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`) (region 4's entry). -/
def W5 (c : Dev nD) : Valuation τ sig (Elt F) :=
  Pipeline.withArrays spec3 c (W4 m ρ c) fun w => (dat3 (V4 m ρ) c).arrAt w cfg3.N
/-- At boundary 5 a window's array holds what region 3 leaves in it. -/
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
/-- At boundary 5 a buffer that is no window's array of region 3 is as it was before the region. -/
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
/-- The arguments are unchanged at boundary 5. -/
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
/-- Region 3 leaves every buffer outside its windows' arrays as it was. -/
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec4 c (W5 m ρ c) fun w => (dat4 (V5 m ρ) c).arrAt w cfg4.N
/-- At boundary 6 a window's array holds what region 4 leaves in it. -/
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
/-- At boundary 6 a buffer that is no window's array of region 4 is as it was before the region. -/
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- A reference that is none of region 4's OUTPUT arrays keeps its entry contents across it: an input window's
    array is never written back (`Dat.arrAt_in`, `A_eq4`); any other buffer is left as is. -/
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (V5 m ρ) c).arrAt_in w (h w rfl) _).trans (A_eq4 (V5 m ρ) c w))
  · exact W6_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
/-- The arguments are unchanged at boundary 6. -/
theorem W6_args (c : Dev nD) : ∀ a ∈ argRefs, W6 m ρ c (Proc.devRef .tc a) = m ((c : Thread nD τ).loc a) :=
  fun a ha => (W6_of m ρ c a (argsIn4 a ha)).trans (W5_args m ρ c a ha)
/-- The same read at the TensorCore's references (region 4's exit contents). -/
abbrev V6 : (c : Dev nD) → (b : Ref sig .tc) → Buf (Elt F) ((c : Thread nD τ).loc b) := fun c b => W6 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V5 m ρ) c).arrAt w cfg4.N = V6 m ρ c (Pipeline.arrRef spec4 w) :=
  (W6_arr m ρ c w).symm
/-- Region 4 leaves every buffer outside its windows' arrays as it was. -/
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- After `hostOps5`. -/
abbrev W7 : Dev nD → Valuation τ sig (Elt F) := fun c => StableHlo.after hostOps5 (W6 m ρ c)
/-- A reference `hostOps5` does not write keeps its contents across it. -/
theorem W7_of (c : Dev nD) (r : Ref sig .tc) (h : r ∉ hostOps5_W) : W7 m ρ c (Proc.devRef .tc r) = W6 m ρ c (Proc.devRef .tc r) :=
  StableHlo.after_of_writes_sub hostOps5 _ hostOps5_writes h
/-- The arguments are unchanged at boundary 7. -/
theorem W7_args (c : Dev nD) : ∀ a ∈ argRefs, W7 m ρ c (Proc.devRef .tc a) = m ((c : Thread nD τ).loc a) :=
  fun a ha => (W7_of m ρ c a (hostOps5_args a ha)).trans (W6_args m ρ c a ha)

/-! ### The arguments end as launched: no host stretch writes one and no region may change one (a region reads it
    through an input window or bypasses it) -/

/-- Argument 0 is unchanged at the end. -/
theorem W7_main_arg0 (c : Dev nD) : W7 m ρ c (Proc.devRef .tc main_arg0) = m ((c : Thread nD τ).loc main_arg0) :=
  W7_args m ρ c main_arg0 (by decide)
/-- Argument 1 is unchanged at the end. -/
theorem W7_main_arg1 (c : Dev nD) : W7 m ρ c (Proc.devRef .tc main_arg1) = m ((c : Thread nD τ).loc main_arg1) :=
  W7_args m ρ c main_arg1 (by decide)
/-- Argument 2 is unchanged at the end. -/
theorem W7_main_arg2 (c : Dev nD) : W7 m ρ c (Proc.devRef .tc main_arg2) = m ((c : Thread nD τ).loc main_arg2) :=
  W7_args m ρ c main_arg2 (by decide)
/-- Argument 3 is unchanged at the end. -/
theorem W7_main_arg3 (c : Dev nD) : W7 m ρ c (Proc.devRef .tc main_arg3) = m ((c : Thread nD τ).loc main_arg3) :=
  W7_args m ρ c main_arg3 (by decide)
/-- Argument 4 is unchanged at the end. -/
theorem W7_main_arg4 (c : Dev nD) : W7 m ρ c (Proc.devRef .tc main_arg4) = m ((c : Thread nD τ).loc main_arg4) :=
  W7_args m ρ c main_arg4 (by decide)
/-- Argument 5 is unchanged at the end. -/
theorem W7_main_arg5 (c : Dev nD) : W7 m ρ c (Proc.devRef .tc main_arg5) = m ((c : Thread nD τ).loc main_arg5) :=
  W7_args m ρ c main_arg5 (by decide)
/-- Argument 6 is unchanged at the end. -/
theorem W7_main_arg6 (c : Dev nD) : W7 m ρ c (Proc.devRef .tc main_arg6) = m ((c : Thread nD τ).loc main_arg6) :=
  W7_args m ρ c main_arg6 (by decide)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
/-- No loop needs a variant. -/
abbrev 𝒱₀ : Variants := Variants.none
/-- No core owes another anything: no level is assigned. -/
abbrev L : GSem nD τ sig → Finset Unit := fun _ => ∅
/-- Every semaphore is at level 0. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

end Cert.Kernel.Fr

end
-- ==== Proof.Kernel.Segs.lean ====
module

public import proofs.«01_k».proof.Proof.Kernel.Bounds

/-! The five calls as segments of @main over the thread state "every unscoped buffer at the boundary's contents". -/

@[expose] public section

-- membership in a rectangle of production extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 4 (custom_call 4) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) (A_eq4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : (Pipeline.ΦA spec4 c : sProp 𝕄) ⊢ (pdats m ρ 4 c).Φ 0 := hin4 (V5 m ρ) c
    iintro ⟨Hp, -, Hr⟩
    iapply h0
    unfold Pipeline.ΦA
    isplitl [Hr]; · iexact Hr
    iexact Hp
  hout c := by
    rw [Pipeline.ownSems0_none]
    have h0 : (pdats m ρ 4 c).Φ (Fin.last _) ⊢ (Pipeline.ΦA spec4 c : sProp 𝕄) := hout4 (V5 m ρ) c
    iintro H
    ihave H' := h0 $$ H
    unfold Pipeline.ΦA
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .host (hseg hostOps5 hostOps5_sub hostOps5_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

end Cert.Kernel.Fr

end
-- ==== Proof.Kernel.Run.lean ====
module

public import proofs.«01_k».proof.Proof.Kernel.Segs

/-! The whole program's run, with every final array named, and its frame claim. -/

@[expose] public section

-- membership in a rectangle of production extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- The run: from any memory with zero counters every weakly fair execution of @main terminates, nothing faulting, and every
    final state has each unscoped buffer at the last boundary's contents `W7` and every semaphore counter at zero. -/
theorem run_main : θ_run defs (onTc (τ := τ) (main (F := F))) ⟨m, fun _ => 0, ρ⟩ (fun r => (∀ c : Dev nD,
      ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The frame claim: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c),
       (h.1 c _ (mem_uc main_arg5 (by decide))).trans (W7_main_arg5 m ρ c),
       (h.1 c _ (mem_uc main_arg6 (by decide))).trans (W7_main_arg6 m ρ c)⟩, h.2⟩)
    (run_main m ρ)

end Cert.Kernel.Fr

end
-- ==== Proof.KernelIdeal.Reg0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Region 0 of the program, the `norm_quant` call: what its body leaves in every window at every grid point, the pipeline's
   proof data over the contents `V` it is entered with, and its body obligation. -/

@[expose] public section

-- membership in a rectangle of production extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data over `V` that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, for any proof data over `V` that leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, for any proof data over `V` that leaves it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A rectangle that region 0 reads or writes. -/
abbrev r0_0 : Rect S128x8192 := Rect.unit (s := S128x8192) ![0, 0] S128x8192.size inb_S128x8192_S128x8192_0_0
/-- A rectangle that region 0 reads or writes. -/
abbrev r0_1 : Rect S1x8192 := Rect.unit (s := S1x8192) ![0, 0] S1x8192.size inb_S1x8192_S1x8192_0_0
/-- A rectangle that region 0 reads or writes. -/
abbrev r0_2 : Rect S128x128 := Rect.unit (s := S128x128) ![0, 0] S128x128.size inb_S128x128_S128x128_0_0

/-! ## What the body leaves in each output window's buffer -/

/-- Window 3's staging buffer after the body, from the input windows' blocks: its 1 store as pieces, LAST
    FIRST (Lib/Pipeline/FrameBody.lean `View.canon`; the payloads are the skeleton's). -/
def out0_3 (x0 : Vec F S128x8192 .bf16) (x1 : Vec F S1x8192 .f32) (x2 : Vec F S1x8192 .f32) : Vec F S128x8192 .i8 :=
  View.canon [⟨r0_0, k0_pay3 (View.ld x0 r0_0) (View.ld x1 r0_1) (View.ld x2 r0_1)⟩]

/-- Its stores tile the buffer (checked by evaluation), so they cover it. -/
theorem cover0_3 (p0 : Vec F S128x8192 .i8) (y : S128x8192.Idx) :
    ∃ pc ∈ ([⟨r0_0, p0⟩] : List (View.Piece (Elt F) S128x8192 .i8)), y ∈ pc.1.set :=
  View.cover_of_tiled [⟨r0_0, p0⟩] S128x8192.size (by rfl) y

/-- Window 4's staging buffer after the body, from the input windows' blocks: its 1 store as pieces, LAST
    FIRST (Lib/Pipeline/FrameBody.lean `View.canon`; the payloads are the skeleton's). -/
def out0_4 (x0 : Vec F S128x8192 .bf16) (x1 : Vec F S1x8192 .f32) (x2 : Vec F S1x8192 .f32) : Vec F S128x128 .f32 :=
  View.canon [⟨r0_2, k0_pay4 (View.ld x0 r0_0) (View.ld x1 r0_1) (View.ld x2 r0_1)⟩]

/-- Its stores tile the buffer (checked by evaluation), so they cover it. -/
theorem cover0_4 (p0 : Vec F S128x128 .f32) (y : S128x128.Idx) :
    ∃ pc ∈ ([⟨r0_2, p0⟩] : List (View.Piece (Elt F) S128x128 .f32)), y ∈ pc.1.set :=
  View.cover_of_tiled [⟨r0_2, p0⟩] S128x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S128x8192 .bf16) (harg1 : arg1.IsWhole) (arg2 : Memref sig .tc .vmem S1x8192 .f32) (harg2 : arg2.IsWhole) (arg3 : Memref sig .tc .vmem S1x8192 .f32) (harg3 : arg3.IsWhole) (arg4 : Memref sig .tc .vmem S128x8192 .i8) (harg4 : arg4.IsWhole) (arg5 : Memref sig .tc .vmem S128x128 .f32) (harg5 : arg5.IsWhole)
    (x0 : Vec F S128x8192 .bf16) (x1 : Vec F S1x8192 .f32) (x2 : Vec F S1x8192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0_norm_quant i arg1 harg1 arg2 harg2 arg3 harg3 arg4 harg4 arg5 harg5) K := by
  simp only [cc0_norm_quant_eq_skeleton]; unfold cc0_norm_quant_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What window 1's staging buffer holds after a point of region 0. -/
theorem after0_1 (c : Dev nD) (t : Fin cfg0.N) : (dat0 V c).after 1 t = iblk0 V c 1 t := by dsimp only [dat0]
/-- What window 2's staging buffer holds after a point of region 0. -/
theorem after0_2 (c : Dev nD) (t : Fin cfg0.N) : (dat0 V c).after 2 t = iblk0 V c 2 t := by dsimp only [dat0]
/-- What window 3's staging buffer holds after a point of region 0. -/
theorem after0_3 (c : Dev nD) (t : Fin cfg0.N) : (dat0 V c).after 3 t = out0_3 (iblk0 V c 0 t) (iblk0 V c 1 t) (iblk0 V c 2 t) := by dsimp only [dat0]
/-- What window 4's staging buffer holds after a point of region 0. -/
theorem after0_4 (c : Dev nD) (t : Fin cfg0.N) : (dat0 V c).after 4 t = out0_4 (iblk0 V c 0 t) (iblk0 V c 1 t) (iblk0 V c 2 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What window 1's staging buffer holds before a point of region 0: its block. -/
theorem before0_1 (c : Dev nD) (t : Fin cfg0.N) (d) : (dat0 V c).before 1 t d = iblk0 V c 1 t :=
  before0_1_of V (dat0 V c) (A_eq0 V c 1) (after0_1 V c) t d
/-- What window 2's staging buffer holds before a point of region 0: its block. -/
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Fr

end
-- ==== Proof.KernelIdeal.Reg1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Region 1 of the program, the `gate_up` call: what its body leaves in every window at every grid point, the pipeline's
   proof data over the contents `V` it is entered with, and its body obligation. -/

@[expose] public section

-- membership in a rectangle of production extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data over `V` that leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, for any proof data over `V` that leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, for any proof data over `V` that leaves it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, for any proof data over `V` that leaves it in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, for any proof data over `V` that leaves it in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, for any proof data over `V` that leaves it in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 72) — by arithmetic of the point. -/
theorem hcond1_0 : ∀ t : Fin cfg1.N, cond1_0 (grid1.coords t) ↔ t.val % 72 = 0 :=
  (fun t => by
    have ht : t.val < 576 := Nat.lt_of_lt_of_eq t.isLt N_1
    have e0 : (grid1.coords t 0).val = t.val / 72 % 8 := Pipeline.Grid.coords_val t 0 (by decide) rfl
    have e1 : (grid1.coords t 1).val = t.val / 1 % 72 := Pipeline.Grid.coords_val t 1 (by decide) rfl
    simp only [cond1_0, e0, e1]
    word_cmp
   : ∀ t : Fin grid1.N, cond1_0 (grid1.coords t) ↔ t.val % 72 = 0)

/-! ## The kernel body on any staging memrefs: a subtype the run finds -/

/-- One staging buffer of output window 6, through which its contents are stated (`View.read_writes_of_cover`: the
    choice does not matter). -/
abbrev VO1_6 : View sig .tc .vmem S1024x256 .f32 := (Memref.whole cc1_stg6_0 : Memref sig .tc .vmem S1024x256 .f32).view
/-- One staging buffer of output window 7, through which its contents are stated (`View.read_writes_of_cover`: the
    choice does not matter). -/
abbrev VO1_7 : View sig .tc .vmem S1024x128 .f32 := (Memref.whole cc1_stg7_0 : Memref sig .tc .vmem S1024x128 .f32).view
/-- Each window's current staging memref at point `t`, spelled as the pipeline passes it (`bodyAt1`), and its wholeness. -/
abbrev ms1_0 (t : Fin cfg1.N) : Memref sig .tc .vmem S1024x8192 .i8 := win1_0.stage (cfg1.slots t 0)
/-- The staging buffer of region 1's window 0 is a whole buffer. -/
abbrev hs1_0 (t : Fin cfg1.N) : (ms1_0 t).IsWhole := hstage1_0 ((cfg1.slots t 0).cast nbuf1_0)
/-- Region 1's staging buffer of window 1 at a point. -/
abbrev ms1_1 (t : Fin cfg1.N) : Memref sig .tc .vmem S1024x128 .f32 := win1_1.stage (cfg1.slots t 1)
/-- The staging buffer of region 1's window 1 is a whole buffer. -/
abbrev hs1_1 (t : Fin cfg1.N) : (ms1_1 t).IsWhole := hstage1_1 ((cfg1.slots t 1).cast nbuf1_1)
/-- Region 1's staging buffer of window 2 at a point. -/
abbrev ms1_2 (t : Fin cfg1.N) : Memref sig .tc .vmem S8192x256 .i8 := win1_2.stage (cfg1.slots t 2)
/-- The staging buffer of region 1's window 2 is a whole buffer. -/
abbrev hs1_2 (t : Fin cfg1.N) : (ms1_2 t).IsWhole := hstage1_2 ((cfg1.slots t 2).cast nbuf1_2)
/-- Region 1's staging buffer of window 3 at a point. -/
abbrev ms1_3 (t : Fin cfg1.N) : Memref sig .tc .vmem S8192x256 .i8 := win1_3.stage (cfg1.slots t 3)
/-- The staging buffer of region 1's window 3 is a whole buffer. -/
abbrev hs1_3 (t : Fin cfg1.N) : (ms1_3 t).IsWhole := hstage1_3 ((cfg1.slots t 3).cast nbuf1_3)
/-- Region 1's staging buffer of window 4 at a point. -/
abbrev ms1_4 (t : Fin cfg1.N) : Memref sig .tc .vmem S1x256 .f32 := win1_4.stage (cfg1.slots t 4)
/-- The staging buffer of region 1's window 4 is a whole buffer. -/
abbrev hs1_4 (t : Fin cfg1.N) : (ms1_4 t).IsWhole := hstage1_4 ((cfg1.slots t 4).cast nbuf1_4)
/-- Region 1's staging buffer of window 5 at a point. -/
abbrev ms1_5 (t : Fin cfg1.N) : Memref sig .tc .vmem S1x256 .f32 := win1_5.stage (cfg1.slots t 5)
/-- The staging buffer of region 1's window 5 is a whole buffer. -/
abbrev hs1_5 (t : Fin cfg1.N) : (ms1_5 t).IsWhole := hstage1_5 ((cfg1.slots t 5).cast nbuf1_5)
/-- Region 1's staging buffer of window 6 at a point. -/
abbrev ms1_6 (t : Fin cfg1.N) : Memref sig .tc .vmem S1024x256 .f32 := win1_6.stage (cfg1.slots t 6)
/-- The staging buffer of region 1's window 6 is a whole buffer. -/
abbrev hs1_6 (t : Fin cfg1.N) : (ms1_6 t).IsWhole := hstage1_6 ((cfg1.slots t 6).cast nbuf1_6)
/-- Region 1's staging buffer of window 7 at a point. -/
abbrev ms1_7 (t : Fin cfg1.N) : Memref sig .tc .vmem S1024x128 .f32 := win1_7.stage (cfg1.slots t 7)
/-- The staging buffer of region 1's window 7 is a whole buffer. -/
abbrev hs1_7 (t : Fin cfg1.N) : (ms1_7 t).IsWhole := hstage1_7 ((cfg1.slots t 7).cast nbuf1_7)

-- (the run's proof term is large: the definition's epilogue — `abstractNestedProofs` — walks it past the default budget)
set_option maxHeartbeats 1000000 in
/-- What the body's stores leave in each output's staging memref, as pieces (last first) IN CASE A (`scf.if` 0 taken: points 0, 72, … 504: 8 of 576), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : cond1_0 i)
    (x0 : Vec F S1024x8192 .i8) (x1 : Vec F S1024x128 .f32) (x2 : Vec F S8192x256 .i8) (x3 : Vec F S8192x256 .i8) (x4 : Vec F S1x256 .f32) (x5 : Vec F S1x256 .f32) :
    Σ' (L6 : List (View.Piece (Elt F) S1024x256 .f32)), { L7 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc1_gate_up i arg2 harg2 arg3 harg3 arg4 harg4 arg5 harg5 arg6 harg6 arg7 harg7 arg8 harg8 arg9 harg9) K } := by
  refine ⟨?_, ?_, fun E K => ?run⟩
  case run =>
    simp only [cc1_gate_up_eq_skeleton]; unfold cc1_gate_up_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- Case A's pieces for output 6 tile its block (1 store of `S1024x256`, checked by the kernel's evaluation: Lib/Ring.lean `Piece.tiledL`, linear in the pieces, through a loop's `@[irreducible]` trip theorem too), so they cover it. -/
theorem cover1_A_6 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : cond1_0 i)
    (x0 : Vec F S1024x8192 .i8) (x1 : Vec F S1024x128 .f32) (x2 : Vec F S8192x256 .i8) (x3 : Vec F S8192x256 .i8) (x4 : Vec F S1x256 .f32) (x5 : Vec F S1x256 .f32) (y : S1024x256.Idx) :
    ∃ pc ∈ (kernelRun1_A c i arg2 harg2 arg3 harg3 arg4 harg4 arg5 harg5 arg6 harg6 arg7 harg7 arg8 harg8 arg9 harg9 hc0 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 x0 x1 x2 x3 x4 x5).1 S1024x256.size (by sl_kernel_rfl) y

/-- What case A leaves in output 6's staging buffer: its pieces read back over junk. -/
def out1_A_6 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : cond1_0 i)
    (x0 : Vec F S1024x8192 .i8) (x1 : Vec F S1024x128 .f32) (x2 : Vec F S8192x256 .i8) (x3 : Vec F S8192x256 .i8) (x4 : Vec F S1x256 .f32) (x5 : Vec F S1x256 .f32) : Vec F S1024x256 .f32 :=
  VO1_6.read (Elt F) (VO1_6.writes (Elt F) VO1_6.junk (kernelRun1_A c i arg2 harg2 arg3 harg3 arg4 harg4 arg5 harg5 arg6 harg6 arg7 harg7 arg8 harg8 arg9 harg9 hc0 x0 x1 x2 x3 x4 x5).1)

/-- Case A's pieces for output 7 tile its block (2 stores of `S1024x128`, checked by the kernel's evaluation: Lib/Ring.lean `Piece.tiledL`, linear in the pieces, through a loop's `@[irreducible]` trip theorem too), so they cover it. -/
theorem cover1_A_7 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : cond1_0 i)
    (x0 : Vec F S1024x8192 .i8) (x1 : Vec F S1024x128 .f32) (x2 : Vec F S8192x256 .i8) (x3 : Vec F S8192x256 .i8) (x4 : Vec F S1x256 .f32) (x5 : Vec F S1x256 .f32) (y : S1024x128.Idx) :
    ∃ pc ∈ (kernelRun1_A c i arg2 harg2 arg3 harg3 arg4 harg4 arg5 harg5 arg6 harg6 arg7 harg7 arg8 harg8 arg9 harg9 hc0 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 x0 x1 x2 x3 x4 x5).2.1 S1024x128.size (by sl_kernel_rfl) y

/-- What case A leaves in output 7's staging buffer: its pieces read back over junk. -/
def out1_A_7 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : cond1_0 i)
    (x0 : Vec F S1024x8192 .i8) (x1 : Vec F S1024x128 .f32) (x2 : Vec F S8192x256 .i8) (x3 : Vec F S8192x256 .i8) (x4 : Vec F S1x256 .f32) (x5 : Vec F S1x256 .f32) : Vec F S1024x128 .f32 :=
  VO1_7.read (Elt F) (VO1_7.writes (Elt F) VO1_7.junk (kernelRun1_A c i arg2 harg2 arg3 harg3 arg4 harg4 arg5 harg5 arg6 harg6 arg7 harg7 arg8 harg8 arg9 harg9 hc0 x0 x1 x2 x3 x4 x5).2.1)

-- (the run's proof term is large: the definition's epilogue — `abstractNestedProofs` — walks it past the default budget)
set_option maxHeartbeats 1000000 in
/-- What the body's stores leave in each output's staging memref, as pieces (last first) IN CASE B (`scf.if` 0 not taken: points 1, 2, … 575: 568 of 576), WITH the
    proof that on whole staging memrefs — the inputs' at their contents, the outputs it reads before covering (7) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : ¬cond1_0 i)
    (x0 : Vec F S1024x8192 .i8) (x1 : Vec F S1024x128 .f32) (x2 : Vec F S8192x256 .i8) (x3 : Vec F S8192x256 .i8) (x4 : Vec F S1x256 .f32) (x5 : Vec F S1x256 .f32) (xo7 : Vec F S1024x128 .f32) :
    Σ' (L6 : List (View.Piece (Elt F) S1024x256 .f32)), { L7 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc1_gate_up i arg2 harg2 arg3 harg3 arg4 harg4 arg5 harg5 arg6 harg6 arg7 harg7 arg8 harg8 arg9 harg9) K } := by
  refine ⟨?_, ?_, fun E K => ?run⟩
  case run =>
    simp only [cc1_gate_up_eq_skeleton]; unfold cc1_gate_up_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- Case B's pieces for output 6 tile its block (1 store of `S1024x256`, checked by the kernel's evaluation: Lib/Ring.lean `Piece.tiledL`, linear in the pieces, through a loop's `@[irreducible]` trip theorem too), so they cover it. -/
theorem cover1_B_6 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : ¬cond1_0 i)
    (x0 : Vec F S1024x8192 .i8) (x1 : Vec F S1024x128 .f32) (x2 : Vec F S8192x256 .i8) (x3 : Vec F S8192x256 .i8) (x4 : Vec F S1x256 .f32) (x5 : Vec F S1x256 .f32) (xo7 : Vec F S1024x128 .f32) (y : S1024x256.Idx) :
    ∃ pc ∈ (kernelRun1_B c i arg2 harg2 arg3 harg3 arg4 harg4 arg5 harg5 arg6 harg6 arg7 harg7 arg8 harg8 arg9 harg9 hc0 x0 x1 x2 x3 x4 x5 xo7).1, y ∈ pc.1.set :=
  View.cover_of_tiledL (kernelRun1_B c i arg2 harg2 arg3 harg3 arg4 harg4 arg5 harg5 arg6 harg6 arg7 harg7 arg8 harg8 arg9 harg9 hc0 x0 x1 x2 x3 x4 x5 xo7).1 S1024x256.size (by sl_kernel_rfl) y

/-- What case B leaves in output 6's staging buffer: its pieces read back over junk. -/
def out1_B_6 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : ¬cond1_0 i)
    (x0 : Vec F S1024x8192 .i8) (x1 : Vec F S1024x128 .f32) (x2 : Vec F S8192x256 .i8) (x3 : Vec F S8192x256 .i8) (x4 : Vec F S1x256 .f32) (x5 : Vec F S1x256 .f32) (xo7 : Vec F S1024x128 .f32) : Vec F S1024x256 .f32 :=
  VO1_6.read (Elt F) (VO1_6.writes (Elt F) VO1_6.junk (kernelRun1_B c i arg2 harg2 arg3 harg3 arg4 harg4 arg5 harg5 arg6 harg6 arg7 harg7 arg8 harg8 arg9 harg9 hc0 x0 x1 x2 x3 x4 x5 xo7).1)

/-- Case B's pieces for output 7 tile its block (1 store of `S1024x128`, checked by the kernel's evaluation: Lib/Ring.lean `Piece.tiledL`, linear in the pieces, through a loop's `@[irreducible]` trip theorem too), so they cover it. -/
theorem cover1_B_7 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : ¬cond1_0 i)
    (x0 : Vec F S1024x8192 .i8) (x1 : Vec F S1024x128 .f32) (x2 : Vec F S8192x256 .i8) (x3 : Vec F S8192x256 .i8) (x4 : Vec F S1x256 .f32) (x5 : Vec F S1x256 .f32) (xo7 : Vec F S1024x128 .f32) (y : S1024x128.Idx) :
    ∃ pc ∈ (kernelRun1_B c i arg2 harg2 arg3 harg3 arg4 harg4 arg5 harg5 arg6 harg6 arg7 harg7 arg8 harg8 arg9 harg9 hc0 x0 x1 x2 x3 x4 x5 xo7).2.1, y ∈ pc.1.set :=
  View.cover_of_tiledL (kernelRun1_B c i arg2 harg2 arg3 harg3 arg4 harg4 arg5 harg5 arg6 harg6 arg7 harg7 arg8 harg8 arg9 harg9 hc0 x0 x1 x2 x3 x4 x5 xo7).2.1 S1024x128.size (by sl_kernel_rfl) y

/-- What case B leaves in output 7's staging buffer: its pieces read back over junk. -/
def out1_B_7 (c : Dev nD) (i : grid1.Coords) (arg2 : Memref sig .tc .vmem S1024x8192 .i8) (harg2 : arg2.IsWhole) (arg3 : Memref sig .tc .vmem S1024x128 .f32) (harg3 : arg3.IsWhole) (arg4 : Memref sig .tc .vmem S8192x256 .i8) (harg4 : arg4.IsWhole) (arg5 : Memref sig .tc .vmem S8192x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x128 .f32) (harg9 : arg9.IsWhole) (hc0 : ¬cond1_0 i)
    (x0 : Vec F S1024x8192 .i8) (x1 : Vec F S1024x128 .f32) (x2 : Vec F S8192x256 .i8) (x3 : Vec F S8192x256 .i8) (x4 : Vec F S1x256 .f32) (x5 : Vec F S1x256 .f32) (xo7 : Vec F S1024x128 .f32) : Vec F S1024x128 .f32 :=
  VO1_7.read (Elt F) (VO1_7.writes (Elt F) VO1_7.junk (kernelRun1_B c i arg2 harg2 arg3 harg3 arg4 harg4 arg5 harg5 arg6 harg6 arg7 harg7 arg8 harg8 arg9 harg9 hc0 x0 x1 x2 x3 x4 x5 xo7).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x256 .f32 × Vec F S1024x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 72 = 0 then
      (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point of case A: that case's contents. -/
theorem outsAt1_A (c : Dev nD) (t : Fin cfg1.N) (h0 : t.val % 72 = 0) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 72 = 0) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What window 1's staging buffer holds after a point of region 1. -/
theorem after1_1 (c : Dev nD) (t : Fin cfg1.N) : (dat1 V c).after 1 t = iblk1 V c 1 t := by dsimp only [dat1]
/-- What window 2's staging buffer holds after a point of region 1. -/
theorem after1_2 (c : Dev nD) (t : Fin cfg1.N) : (dat1 V c).after 2 t = iblk1 V c 2 t := by dsimp only [dat1]
/-- What window 3's staging buffer holds after a point of region 1. -/
theorem after1_3 (c : Dev nD) (t : Fin cfg1.N) : (dat1 V c).after 3 t = iblk1 V c 3 t := by dsimp only [dat1]
/-- What window 4's staging buffer holds after a point of region 1. -/
theorem after1_4 (c : Dev nD) (t : Fin cfg1.N) : (dat1 V c).after 4 t = iblk1 V c 4 t := by dsimp only [dat1]
/-- What window 5's staging buffer holds after a point of region 1. -/
theorem after1_5 (c : Dev nD) (t : Fin cfg1.N) : (dat1 V c).after 5 t = iblk1 V c 5 t := by dsimp only [dat1]
/-- What window 6's staging buffer holds after a point of region 1. -/
theorem after1_6 (c : Dev nD) (t : Fin cfg1.N) : (dat1 V c).after 6 t = (outsAt1 V c t.val t.isLt).1 := by dsimp only [dat1]
/-- What window 7's staging buffer holds after a point of region 1. -/
theorem after1_7 (c : Dev nD) (t : Fin cfg1.N) : (dat1 V c).after 7 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What window 1's staging buffer holds before a point of region 1: its block. -/
theorem before1_1 (c : Dev nD) (t : Fin cfg1.N) (d) : (dat1 V c).before 1 t d = iblk1 V c 1 t :=
  before1_1_of V (dat1 V c) (A_eq1 V c 1) (after1_1 V c) t d
/-- What window 2's staging buffer holds before a point of region 1: its block. -/
theorem before1_2 (c : Dev nD) (t : Fin cfg1.N) (d) : (dat1 V c).before 2 t d = iblk1 V c 2 t :=
  before1_2_of V (dat1 V c) (A_eq1 V c 2) (after1_2 V c) t d
/-- What window 3's staging buffer holds before a point of region 1: its block. -/
theorem before1_3 (c : Dev nD) (t : Fin cfg1.N) (d) : (dat1 V c).before 3 t d = iblk1 V c 3 t :=
  before1_3_of V (dat1 V c) (A_eq1 V c 3) (after1_3 V c) t d
/-- What window 4's staging buffer holds before a point of region 1: its block. -/
theorem before1_4 (c : Dev nD) (t : Fin cfg1.N) (d) : (dat1 V c).before 4 t d = iblk1 V c 4 t :=
  before1_4_of V (dat1 V c) (A_eq1 V c 4) (after1_4 V c) t d
/-- What window 5's staging buffer holds before a point of region 1: its block. -/
theorem before1_5 (c : Dev nD) (t : Fin cfg1.N) (d) : (dat1 V c).before 5 t d = iblk1 V c 5 t :=
  before1_5_of V (dat1 V c) (A_eq1 V c 5) (after1_5 V c) t d
/-- At a point of case B output 7's current staging buffer holds what the body left at the point before: the point is
    not the first, the buffer was not written back between (`flush1_7`), the window is live and uncut (Lib/Pipeline/Frame.lean
    `Dat.before_out_kept`). -/
theorem before1_7_B (c : Dev nD) (t : Fin cfg1.N) (h0 : ¬t.val % 72 = 0) (d) :
    (dat1 V c).before 7 t d = (outsAt1 V c (t.val - 1) (Nat.lt_of_le_of_lt (Nat.sub_le _ _) t.isLt)).2 := by
  have hN : t.val < 576 := lt_of_lt_of_eq t.isLt (show cfg1.N = 576 from N_1)
  rw [Dat.before_out_kept _ 7 rfl t (by omega) (Bool.eq_false_iff.mpr fun h => by have := (flush1_7 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 1600000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  have hN : t.val < 576 := lt_of_lt_of_eq t.isLt (show cfg1.N = 576 from N_1)
  by_cases h0 : t.val % 72 = 0
  · rw [outsAt1_A V c t h0]
    unfold out1_A_6 out1_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_A_6 c _ _ _ _ _ _ _ _ _ _ _ _ _ _ _ _ _ _ _ _ _ _ _ _)
    unfold owns; iexists _; isplitr
    swap; · iexact H7
    ipureintro; exact View.read_writes_of_cover _ _ _ _ _ (cover1_A_7 c _ _ _ _ _ _ _ _ _ _ _ _ _ _ _ _ _ _ _ _ _ _ _ _)
  · rw [outsAt1_B V c t h0]
    simp only [before1_7_B V c t h0]
    unfold out1_B_6 out1_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_B c (grid1.coords t) _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_B_6 c _ _ _ _ _ _ _ _ _ _ _ _ _ _ _ _ _ _ _ _ _ _ _ _ _)
    unfold owns; iexists _; isplitr
    swap; · iexact H7
    ipureintro; exact View.read_writes_of_cover _ _ _ _ _ (cover1_B_7 c _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Fr

end
-- ==== Proof.KernelIdeal.Reg2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Region 2 of the program, the `qkv` call: what its body leaves in every window at every grid point, the pipeline's
   proof data over the contents `V` it is entered with, and its body obligation. -/

@[expose] public section

-- membership in a rectangle of production extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data over `V` that leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, for any proof data over `V` that leaves it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, for any proof data over `V` that leaves it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, for any proof data over `V` that leaves it in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- A rectangle that region 2 reads or writes. -/
abbrev r2_0 : Rect S1024x8192 := Rect.unit (s := S1024x8192) ![0, 0] S1024x8192.size inb_S1024x8192_S1024x8192_0_0
/-- A rectangle that region 2 reads or writes. -/
abbrev r2_1 : Rect S8192x512 := Rect.unit (s := S8192x512) ![0, 0] S8192x512.size inb_S8192x512_S8192x512_0_0
/-- A rectangle that region 2 reads or writes. -/
abbrev r2_2 : Rect S1024x128 := Rect.unit (s := S1024x128) ![0, 0] S1024x1.size inb_S1024x128_S1024x1_0_0
/-- A rectangle that region 2 reads or writes. -/
abbrev r2_3 : Rect S1x512 := Rect.unit (s := S1x512) ![0, 0] S1x512.size inb_S1x512_S1x512_0_0
/-- A rectangle that region 2 reads or writes. -/
abbrev r2_4 : Rect S1024x512 := Rect.unit (s := S1024x512) ![0, 0] S1024x512.size inb_S1024x512_S1024x512_0_0

/-! ## What the body leaves in each output window's buffer -/

/-- Window 4's staging buffer after the body, from the input windows' blocks: its 1 store as pieces, LAST
    FIRST (Lib/Pipeline/FrameBody.lean `View.canon`; the payloads are the skeleton's). -/
def out2_4 (x0 : Vec F S1024x8192 .i8) (x1 : Vec F S1024x128 .f32) (x2 : Vec F S8192x512 .i8) (x3 : Vec F S1x512 .f32) : Vec F S1024x512 .bf16 :=
  View.canon [⟨r2_4, k2_pay1 (View.ld x0 r2_0) (View.ld x2 r2_1) (View.ld x1 r2_2) (View.ld x3 r2_3)⟩]

/-- Its stores tile the buffer (checked by evaluation), so they cover it. -/
theorem cover2_4 (p0 : Vec F S1024x512 .bf16) (y : S1024x512.Idx) :
    ∃ pc ∈ ([⟨r2_4, p0⟩] : List (View.Piece (Elt F) S1024x512 .bf16)), y ∈ pc.1.set :=
  View.cover_of_tiled [⟨r2_4, p0⟩] S1024x512.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg2 : Memref sig .tc .vmem S1024x8192 .i8) (harg2 : arg2.IsWhole) (arg3 : Memref sig .tc .vmem S1024x128 .f32) (harg3 : arg3.IsWhole) (arg4 : Memref sig .tc .vmem S8192x512 .i8) (harg4 : arg4.IsWhole) (arg5 : Memref sig .tc .vmem S1x512 .f32) (harg5 : arg5.IsWhole) (arg6 : Memref sig .tc .vmem S1024x512 .bf16) (harg6 : arg6.IsWhole)
    (x0 : Vec F S1024x8192 .i8) (x1 : Vec F S1024x128 .f32) (x2 : Vec F S8192x512 .i8) (x3 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2_qkv i arg2 harg2 arg3 harg3 arg4 harg4 arg5 harg5 arg6 harg6) K := by
  simp only [cc2_qkv_eq_skeleton]; unfold cc2_qkv_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
/-- What window 1's staging buffer holds after a point of region 2. -/
theorem after2_1 (c : Dev nD) (t : Fin cfg2.N) : (dat2 V c).after 1 t = iblk2 V c 1 t := by dsimp only [dat2]
/-- What window 2's staging buffer holds after a point of region 2. -/
theorem after2_2 (c : Dev nD) (t : Fin cfg2.N) : (dat2 V c).after 2 t = iblk2 V c 2 t := by dsimp only [dat2]
/-- What window 3's staging buffer holds after a point of region 2. -/
theorem after2_3 (c : Dev nD) (t : Fin cfg2.N) : (dat2 V c).after 3 t = iblk2 V c 3 t := by dsimp only [dat2]
/-- What window 4's staging buffer holds after a point of region 2. -/
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
/-- What window 1's staging buffer holds before a point of region 2: its block. -/
theorem before2_1 (c : Dev nD) (t : Fin cfg2.N) (d) : (dat2 V c).before 1 t d = iblk2 V c 1 t :=
  before2_1_of V (dat2 V c) (A_eq2 V c 1) (after2_1 V c) t d
/-- What window 2's staging buffer holds before a point of region 2: its block. -/
theorem before2_2 (c : Dev nD) (t : Fin cfg2.N) (d) : (dat2 V c).before 2 t d = iblk2 V c 2 t :=
  before2_2_of V (dat2 V c) (A_eq2 V c 2) (after2_2 V c) t d
/-- What window 3's staging buffer holds before a point of region 2: its block. -/
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Fr

end
-- ==== Proof.KernelIdeal.Reg3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Region 3 of the program, the `h_quant` call: what its body leaves in every window at every grid point, the pipeline's
   proof data over the contents `V` it is entered with, and its body obligation. -/

@[expose] public section

-- membership in a rectangle of production extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data over `V` that leaves it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, for any proof data over `V` that leaves it in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- A rectangle that region 3 reads or writes. -/
abbrev r3_0 : Rect S128x18432 := Rect.unit (s := S128x18432) ![0, 0] S128x18432.size inb_S128x18432_S128x18432_0_0
/-- A rectangle that region 3 reads or writes. -/
abbrev r3_1 : Rect S128x128 := Rect.unit (s := S128x128) ![0, 0] S128x1.size inb_S128x128_S128x1_0_0
/-- A rectangle that region 3 reads or writes. -/
abbrev r3_2 : Rect S128x128 := Rect.unit (s := S128x128) ![0, 0] S128x128.size inb_S128x128_S128x128_0_0

/-! ## What the body leaves in each output window's buffer -/

/-- Window 2's staging buffer after the body, from the input windows' blocks: its 1 store as pieces, LAST
    FIRST (Lib/Pipeline/FrameBody.lean `View.canon`; the payloads are the skeleton's). -/
def out3_2 (x0 : Vec F S128x18432 .f32) (x1 : Vec F S128x128 .f32) : Vec F S128x18432 .i8 :=
  View.canon [⟨r3_0, k3_pay2 (View.ld x0 r3_0) (View.ld x1 r3_1)⟩]

/-- Its stores tile the buffer (checked by evaluation), so they cover it. -/
theorem cover3_2 (p0 : Vec F S128x18432 .i8) (y : S128x18432.Idx) :
    ∃ pc ∈ ([⟨r3_0, p0⟩] : List (View.Piece (Elt F) S128x18432 .i8)), y ∈ pc.1.set :=
  View.cover_of_tiled [⟨r3_0, p0⟩] S128x18432.size (by rfl) y

/-- Window 3's staging buffer after the body, from the input windows' blocks: its 1 store as pieces, LAST
    FIRST (Lib/Pipeline/FrameBody.lean `View.canon`; the payloads are the skeleton's). -/
def out3_3 (x0 : Vec F S128x18432 .f32) (x1 : Vec F S128x128 .f32) : Vec F S128x128 .f32 :=
  View.canon [⟨r3_2, k3_pay3 (View.ld x1 r3_1)⟩]

/-- Its stores tile the buffer (checked by evaluation), so they cover it. -/
theorem cover3_3 (p0 : Vec F S128x128 .f32) (y : S128x128.Idx) :
    ∃ pc ∈ ([⟨r3_2, p0⟩] : List (View.Piece (Elt F) S128x128 .f32)), y ∈ pc.1.set :=
  View.cover_of_tiled [⟨r3_2, p0⟩] S128x128.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S128x18432 .f32) (harg1 : arg1.IsWhole) (arg2 : Memref sig .tc .vmem S128x128 .f32) (harg2 : arg2.IsWhole) (arg3 : Memref sig .tc .vmem S128x18432 .i8) (harg3 : arg3.IsWhole) (arg4 : Memref sig .tc .vmem S128x128 .f32) (harg4 : arg4.IsWhole)
    (x0 : Vec F S128x18432 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare (out3_3 x0 x1)) -∗ K ⟨⟩))
      ⊢ wp frame (wpE (defs₀ (F := F)) Variants.none c none) E (cc3_h_quant i arg1 harg1 arg2 harg2 arg3 harg3 arg4 harg4) K := by
  simp only [cc3_h_quant_eq_skeleton]; unfold cc3_h_quant_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3_2 _)
  iexists _; isplitr
  swap; · iexact H3
  ipureintro
  exact View.read_writes_eq_canon _ _ _ (cover3_3 _)

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
/-- What window 1's staging buffer holds after a point of region 3. -/
theorem after3_1 (c : Dev nD) (t : Fin cfg3.N) : (dat3 V c).after 1 t = iblk3 V c 1 t := by dsimp only [dat3]
/-- What window 2's staging buffer holds after a point of region 3. -/
theorem after3_2 (c : Dev nD) (t : Fin cfg3.N) : (dat3 V c).after 2 t = out3_2 (iblk3 V c 0 t) (iblk3 V c 1 t) := by dsimp only [dat3]
/-- What window 3's staging buffer holds after a point of region 3. -/
theorem after3_3 (c : Dev nD) (t : Fin cfg3.N) : (dat3 V c).after 3 t = out3_3 (iblk3 V c 0 t) (iblk3 V c 1 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
/-- What window 1's staging buffer holds before a point of region 3: its block. -/
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Fr

end
-- ==== Proof.KernelIdeal.Reg4.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Region 4 of the program, the `down` call: its windows' blocks, the two branch conditions in closed form over the
   grid points, where the output window is idle, and the scratch buffer carried from point to point. -/

@[expose] public section

-- membership in a rectangle of production extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data over `V` that leaves it in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, for any proof data over `V` that leaves it in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, for any proof data over `V` that leaves it in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, for any proof data over `V` that leaves it in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, for any proof data over `V` that leaves it in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's `scf.if` 0 (`k4_h1`), from the grid coordinates (the skeleton's scalar
    chain substituted). -/
abbrev cond4_0 (i : grid4.Coords) : Prop := (Scalar.cmpi .ne (Scalar.extui (Scalar.cmpi .eq (BitVec.ofNat 32 (i 2).val) 0#32)) 0#32) = 1#1
/-- It holds at the points ≡ 0 (mod 4) — by arithmetic of the point. -/
theorem hcond4_0 : ∀ t : Fin cfg4.N, cond4_0 (grid4.coords t) ↔ t.val % 4 = 0 :=
  (fun t => by
    have ht : t.val < 256 := Nat.lt_of_lt_of_eq t.isLt N_4
    have e0 : (grid4.coords t 0).val = t.val / 32 % 8 := Pipeline.Grid.coords_val t 0 (by decide) rfl
    have e1 : (grid4.coords t 1).val = t.val / 4 % 8 := Pipeline.Grid.coords_val t 1 (by decide) rfl
    have e2 : (grid4.coords t 2).val = t.val / 1 % 4 := Pipeline.Grid.coords_val t 2 (by decide) rfl
    simp only [cond4_0, e0, e1, e2]
    word_cmp
   : ∀ t : Fin grid4.N, cond4_0 (grid4.coords t) ↔ t.val % 4 = 0)

/-- The condition of the body's `scf.if` 1 (`k4_h2`), from the grid coordinates (the skeleton's scalar
    chain substituted). -/
abbrev cond4_1 (i : grid4.Coords) : Prop := k4_cond2 i = 1#1
/-- It holds at the points ≡ 3 (mod 4) — by arithmetic of the point. -/
theorem hcond4_1 : ∀ t : Fin cfg4.N, cond4_1 (grid4.coords t) ↔ t.val % 4 = 3 :=
  (fun t => by
    have ht : t.val < 256 := Nat.lt_of_lt_of_eq t.isLt N_4
    have e0 : (grid4.coords t 0).val = t.val / 32 % 8 := Pipeline.Grid.coords_val t 0 (by decide) rfl
    have e1 : (grid4.coords t 1).val = t.val / 4 % 8 := Pipeline.Grid.coords_val t 1 (by decide) rfl
    have e2 : (grid4.coords t 2).val = t.val / 1 % 4 := Pipeline.Grid.coords_val t 2 (by decide) rfl
    simp only [cond4_1, k4_cond2, e0, e1, e2]
    word_cmp
   : ∀ t : Fin grid4.N, cond4_1 (grid4.coords t) ↔ t.val % 4 = 3)

/-! ## Where the windows are idle (the printed configuration's table `Cfg.idle`) -/

/-- Window 0 is never idle (an input). -/
theorem liveAt4_0 : ∀ t : Fin cfg4.N, cfg4.idle 0 (grid4.coords t) = false := fun _ => rfl
/-- Window 1 is never idle (an input). -/
theorem liveAt4_1 : ∀ t : Fin cfg4.N, cfg4.idle 1 (grid4.coords t) = false := fun _ => rfl
/-- Window 2 is never idle (an input). -/
theorem liveAt4_2 : ∀ t : Fin cfg4.N, cfg4.idle 2 (grid4.coords t) = false := fun _ => rfl
/-- Window 3 is never idle (an input). -/
theorem liveAt4_3 : ∀ t : Fin cfg4.N, cfg4.idle 3 (grid4.coords t) = false := fun _ => rfl
/-- Window 4 is never idle (an input). -/
theorem liveAt4_4 : ∀ t : Fin cfg4.N, cfg4.idle 4 (grid4.coords t) = false := fun _ => rfl
/-- At the points of case A the printed configuration (`Cfg.idle`) calls output 5 idle: the case stores nothing into it. -/
theorem idleAt4_5_A : ∀ t : Fin cfg4.N, cond4_0 (grid4.coords t) → ¬cond4_1 (grid4.coords t) → cfg4.idle 5 (grid4.coords t) = true := by decide +kernel
/-- At the points of case A the pipeline does not write output 5's block back. -/
theorem noFlush4_5_A : ∀ t : Fin cfg4.N, cond4_0 (grid4.coords t) → ¬cond4_1 (grid4.coords t) → (cfg4.win 5).flush t = false := by decide +kernel
/-- At the points of case B the printed configuration (`Cfg.idle`) calls output 5 idle: the case stores nothing into it. -/
theorem idleAt4_5_B : ∀ t : Fin cfg4.N, ¬cond4_0 (grid4.coords t) → ¬cond4_1 (grid4.coords t) → cfg4.idle 5 (grid4.coords t) = true := by decide +kernel
/-- At the points of case B the pipeline does not write output 5's block back. -/
theorem noFlush4_5_B : ∀ t : Fin cfg4.N, ¬cond4_0 (grid4.coords t) → ¬cond4_1 (grid4.coords t) → (cfg4.win 5).flush t = false := by decide +kernel
/-- At the points of case C the printed configuration (`Cfg.idle`) calls output 5 live: the case stores into it. -/
theorem liveAt4_5_C : ∀ t : Fin cfg4.N, ¬cond4_0 (grid4.coords t) → cond4_1 (grid4.coords t) → cfg4.idle 5 (grid4.coords t) = false := by decide +kernel

/-! ## The kernel body on any staging memrefs: a subtype the run finds -/

/-- One staging buffer of output window 5, through which its contents are stated (`View.read_writes_of_cover`: the
    choice does not matter). -/
abbrev VO4_5 : View sig .tc .vmem S1024x1024 .bf16 := (Memref.whole cc4_stg5_0 : Memref sig .tc .vmem S1024x1024 .bf16).view
/-- Each window's current staging memref at point `t`, spelled as the pipeline passes it (`bodyAt4`), and its wholeness. -/
abbrev ms4_0 (t : Fin cfg4.N) : Memref sig .tc .vmem S1024x4608 .i8 := win4_0.stage (cfg4.slots t 0)
/-- The staging buffer of region 4's window 0 is a whole buffer. -/
abbrev hs4_0 (t : Fin cfg4.N) : (ms4_0 t).IsWhole := hstage4_0 ((cfg4.slots t 0).cast nbuf4_0)
/-- Region 4's staging buffer of window 1 at a point. -/
abbrev ms4_1 (t : Fin cfg4.N) : Memref sig .tc .vmem S1024x128 .f32 := win4_1.stage (cfg4.slots t 1)
/-- The staging buffer of region 4's window 1 is a whole buffer. -/
abbrev hs4_1 (t : Fin cfg4.N) : (ms4_1 t).IsWhole := hstage4_1 ((cfg4.slots t 1).cast nbuf4_1)
/-- Region 4's staging buffer of window 2 at a point. -/
abbrev ms4_2 (t : Fin cfg4.N) : Memref sig .tc .vmem S4608x1024 .i8 := win4_2.stage (cfg4.slots t 2)
/-- The staging buffer of region 4's window 2 is a whole buffer. -/
abbrev hs4_2 (t : Fin cfg4.N) : (ms4_2 t).IsWhole := hstage4_2 ((cfg4.slots t 2).cast nbuf4_2)
/-- Region 4's staging buffer of window 3 at a point. -/
abbrev ms4_3 (t : Fin cfg4.N) : Memref sig .tc .vmem S1x1024 .f32 := win4_3.stage (cfg4.slots t 3)
/-- The staging buffer of region 4's window 3 is a whole buffer. -/
abbrev hs4_3 (t : Fin cfg4.N) : (ms4_3 t).IsWhole := hstage4_3 ((cfg4.slots t 3).cast nbuf4_3)
/-- Region 4's staging buffer of window 4 at a point. -/
abbrev ms4_4 (t : Fin cfg4.N) : Memref sig .tc .vmem S1024x1024 .bf16 := win4_4.stage (cfg4.slots t 4)
/-- The staging buffer of region 4's window 4 is a whole buffer. -/
abbrev hs4_4 (t : Fin cfg4.N) : (ms4_4 t).IsWhole := hstage4_4 ((cfg4.slots t 4).cast nbuf4_4)
/-- Region 4's staging buffer of window 5 at a point. -/
abbrev ms4_5 (t : Fin cfg4.N) : Memref sig .tc .vmem S1024x1024 .bf16 := win4_5.stage (cfg4.slots t 5)
/-- The staging buffer of region 4's window 5 is a whole buffer. -/
abbrev hs4_5 (t : Fin cfg4.N) : (ms4_5 t).IsWhole := hstage4_5 ((cfg4.slots t 5).cast nbuf4_5)
/-- The scratch operand: a whole scoped buffer of the call's own. -/
abbrev scM4_0 : Memref sig .tc .vmem S1024x1024 .f32 := Memref.whole cc4_scratch0

/-- `Gen.scopedRest4_split` as ONE chain: the kernel's own scratch buffers, each whole at some contents, then every
    other scoped buffer, unopened (`Pipeline.scopedRestBut`). -/
theorem scopedRest4_flat (c : Dev nD) :
    (Pipeline.scopedRest spec4 c : sProp 𝕄)
      = iprop((∃ f : Buf (Elt F) ((c : Thread nD τ).loc cc4_scratch0), ((c : Thread nD τ).loc cc4_scratch0) ↦{fullShare} f) ∗ Pipeline.scopedRestBut spec4 c [cc4_scratch0]) := by
  rw [scopedRest4_split]

/-- The frame kit's invariant with the scratch operands as memrefs owned at some contents (`Gen.scopedRest4_flat`,
    Lib/Memref.lean `owns_whole`): what the body obligation hands the run and takes back. -/
theorem PhiA4_eq (c : Dev nD) :
    (Pipeline.ΦA spec4 c : sProp 𝕄)
      = iprop(iprop((∃ d, owns (c : Thread nD τ) scM4_0 fullShare d) ∗ Pipeline.scopedRestBut spec4 c [cc4_scratch0]) ∗ (∃ r, prngReg c r)) := by
  unfold Pipeline.ΦA; rw [scopedRest4_flat]; simp only [scM4_0, owns_whole]; try rfl

/-- The scratch the call carries from point to point, as a view. -/
abbrev VS4_0 : View sig .tc .vmem S1024x1024 .f32 := scM4_0.view

end Cert.KernelIdeal.Fr

end
-- ==== Proof.KernelIdeal.Reg4A.lean ====
module

public import proofs.«01_k».proof.Proof.KernelIdeal.Reg4

/-! The `down` body at the first point of a block's four: the scratch is cleared and the first partial product added. -/

@[expose] public section

-- membership in a rectangle of production extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 4, … 252: 64 of 256), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_A (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) :
    Σ' (L5 : List (View.Piece (Elt F) S1024x1024 .bf16)), { LS0 : List (View.Piece (Elt F) S1024x1024 .f32) //
      ∀ (xi5 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc4_down i arg3 harg3 arg4 harg4 arg5 harg5 arg6 harg6 arg7 harg7 arg8 harg8 arg9 harg9) K } := by
  refine ⟨[], ?_, fun xi5 E K => ?run⟩
  case run =>
    simp only [cc4_down_eq_skeleton]; unfold cc4_down_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KernelIdeal.Reg4B.lean ====
module

public import proofs.«01_k».proof.Proof.KernelIdeal.Reg4A

/-! The `down` body at the two middle points: a partial product is added to the scratch. -/

@[expose] public section

-- membership in a rectangle of production extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 254: 128 of 256), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_B (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) :
    Σ' (L5 : List (View.Piece (Elt F) S1024x1024 .bf16)), { LS0 : List (View.Piece (Elt F) S1024x1024 .f32) //
      ∀ (xi5 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc4_down i arg3 harg3 arg4 harg4 arg5 harg5 arg6 harg6 arg7 harg7 arg8 harg8 arg9 harg9) K } := by
  refine ⟨[], ?_, fun xi5 E K => ?run⟩
  case run =>
    simp only [cc4_down_eq_skeleton]; unfold cc4_down_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KernelIdeal.Reg4C.lean ====
module

public import proofs.«01_k».proof.Proof.KernelIdeal.Reg4B

/-! The `down` body at the last point of a block's four: the last partial product is added and the output block stored. -/

@[expose] public section

-- membership in a rectangle of production extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken: points 3, 7, … 255: 64 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_C (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) :
    Σ' (L5 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc4_down i arg3 harg3 arg4 harg4 arg5 harg5 arg6 harg6 arg7 harg7 arg8 harg8 arg9 harg9) K } := by
  refine ⟨?_, ?_, fun E K => ?run⟩
  case run =>
    simp only [cc4_down_eq_skeleton]; unfold cc4_down_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Fr

end
-- ==== Proof.KernelIdeal.Reg4Dat.lean ====
module

public import proofs.«01_k».proof.Proof.KernelIdeal.Reg4C

/-! What the `down` call leaves in its output window and its carried scratch at every grid point, the pipeline's proof data,
   and its body obligation. -/

@[expose] public section

-- membership in a rectangle of production extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 5 (the window is idle at its points and not written back there):
    no pieces — a placeholder (junk read back) that nothing consults, since at these points the window is neither
    written back nor read at the next point (Lib/Pipeline.lean "Idle points"). -/
def out4_A_5 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) : Vec F S1024x1024 .bf16 :=
  VO4_5.read (Elt F) (VO4_5.writes (Elt F) VO4_5.junk (kernelRun4_A c i arg3 harg3 arg4 harg4 arg5 harg5 arg6 harg6 arg7 harg7 arg8 harg8 arg9 harg9 hc0 hc1 x0 x1 x2 x3 x4).1)

/-- Case A's pieces for scratch `arg9`, which the kernel carries between points, cover it: 2 pieces of `S1024x1024` tiling it (Lib/Ring.lean `Piece.tiledL`). -/
theorem scover4_A_0 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) (y : S1024x1024.Idx) :
    ∃ pc ∈ (kernelRun4_A c i arg3 harg3 arg4 harg4 arg5 harg5 arg6 harg6 arg7 harg7 arg8 harg8 arg9 harg9 hc0 hc1 x0 x1 x2 x3 x4).2.1, y ∈ pc.1.set :=
  View.cover_of_tiledL (kernelRun4_A c i arg3 harg3 arg4 harg4 arg5 harg5 arg6 harg6 arg7 harg7 arg8 harg8 arg9 harg9 hc0 hc1 x0 x1 x2 x3 x4).2.1 S1024x1024.size (by sl_kernel_rfl) y

/-- What case A leaves in scratch `arg9`: its pieces read back over junk. -/
def sout4_A_0 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) : Vec F S1024x1024 .f32 :=
  VS4_0.read (Elt F) (VS4_0.writes (Elt F) VS4_0.junk (kernelRun4_A c i arg3 harg3 arg4 harg4 arg5 harg5 arg6 harg6 arg7 harg7 arg8 harg8 arg9 harg9 hc0 hc1 x0 x1 x2 x3 x4).2.1)

/-- Case B stores nothing into output 5 (the window is idle at its points and not written back there):
    no pieces — a placeholder (junk read back) that nothing consults, since at these points the window is neither
    written back nor read at the next point (Lib/Pipeline.lean "Idle points"). -/
def out4_B_5 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) : Vec F S1024x1024 .bf16 :=
  VO4_5.read (Elt F) (VO4_5.writes (Elt F) VO4_5.junk (kernelRun4_B c i arg3 harg3 arg4 harg4 arg5 harg5 arg6 harg6 arg7 harg7 arg8 harg8 arg9 harg9 hc0 hc1 x0 x1 x2 x3 x4 xs0).1)

/-- Case B's pieces for scratch `arg9`, which the kernel carries between points, cover it: 1 piece of `S1024x1024` tiling it (Lib/Ring.lean `Piece.tiledL`). -/
theorem scover4_B_0 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) (y : S1024x1024.Idx) :
    ∃ pc ∈ (kernelRun4_B c i arg3 harg3 arg4 harg4 arg5 harg5 arg6 harg6 arg7 harg7 arg8 harg8 arg9 harg9 hc0 hc1 x0 x1 x2 x3 x4 xs0).2.1, y ∈ pc.1.set :=
  View.cover_of_tiledL (kernelRun4_B c i arg3 harg3 arg4 harg4 arg5 harg5 arg6 harg6 arg7 harg7 arg8 harg8 arg9 harg9 hc0 hc1 x0 x1 x2 x3 x4 xs0).2.1 S1024x1024.size (by sl_kernel_rfl) y

/-- What case B leaves in scratch `arg9`: its pieces read back over junk. -/
def sout4_B_0 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : ¬cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) : Vec F S1024x1024 .f32 :=
  VS4_0.read (Elt F) (VS4_0.writes (Elt F) VS4_0.junk (kernelRun4_B c i arg3 harg3 arg4 harg4 arg5 harg5 arg6 harg6 arg7 harg7 arg8 harg8 arg9 harg9 hc0 hc1 x0 x1 x2 x3 x4 xs0).2.1)

/-- Case C's pieces for output 5 tile its block (1 store of `S1024x1024`, checked by the kernel's evaluation: Lib/Ring.lean `Piece.tiledL`, linear in the pieces, through a loop's `@[irreducible]` trip theorem too), so they cover it. -/
theorem cover4_C_5 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) (y : S1024x1024.Idx) :
    ∃ pc ∈ (kernelRun4_C c i arg3 harg3 arg4 harg4 arg5 harg5 arg6 harg6 arg7 harg7 arg8 harg8 arg9 harg9 hc0 hc1 x0 x1 x2 x3 x4 xs0).1, y ∈ pc.1.set :=
  View.cover_of_tiledL (kernelRun4_C c i arg3 harg3 arg4 harg4 arg5 harg5 arg6 harg6 arg7 harg7 arg8 harg8 arg9 harg9 hc0 hc1 x0 x1 x2 x3 x4 xs0).1 S1024x1024.size (by sl_kernel_rfl) y

/-- What case C leaves in output 5's staging buffer: its pieces read back over junk. -/
def out4_C_5 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) : Vec F S1024x1024 .bf16 :=
  VO4_5.read (Elt F) (VO4_5.writes (Elt F) VO4_5.junk (kernelRun4_C c i arg3 harg3 arg4 harg4 arg5 harg5 arg6 harg6 arg7 harg7 arg8 harg8 arg9 harg9 hc0 hc1 x0 x1 x2 x3 x4 xs0).1)

/-- Case C's pieces for scratch `arg9`, which the kernel carries between points, cover it: 1 piece of `S1024x1024` tiling it (Lib/Ring.lean `Piece.tiledL`). -/
theorem scover4_C_0 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) (y : S1024x1024.Idx) :
    ∃ pc ∈ (kernelRun4_C c i arg3 harg3 arg4 harg4 arg5 harg5 arg6 harg6 arg7 harg7 arg8 harg8 arg9 harg9 hc0 hc1 x0 x1 x2 x3 x4 xs0).2.1, y ∈ pc.1.set :=
  View.cover_of_tiledL (kernelRun4_C c i arg3 harg3 arg4 harg4 arg5 harg5 arg6 harg6 arg7 harg7 arg8 harg8 arg9 harg9 hc0 hc1 x0 x1 x2 x3 x4 xs0).2.1 S1024x1024.size (by sl_kernel_rfl) y

/-- What case C leaves in scratch `arg9`: its pieces read back over junk. -/
def sout4_C_0 (c : Dev nD) (i : grid4.Coords) (arg3 : Memref sig .tc .vmem S1024x4608 .i8) (harg3 : arg3.IsWhole) (arg4 : Memref sig .tc .vmem S1024x128 .f32) (harg4 : arg4.IsWhole) (arg5 : Memref sig .tc .vmem S4608x1024 .i8) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond4_0 i) (hc1 : cond4_1 i)
    (x0 : Vec F S1024x4608 .i8) (x1 : Vec F S1024x128 .f32) (x2 : Vec F S4608x1024 .i8) (x3 : Vec F S1x1024 .f32) (x4 : Vec F S1024x1024 .bf16) (xs0 : Vec F S1024x1024 .f32) : Vec F S1024x1024 .f32 :=
  VS4_0.read (Elt F) (VS4_0.writes (Elt F) VS4_0.junk (kernelRun4_C c i arg3 harg3 arg4 harg4 arg5 harg5 arg6 harg6 arg7 harg7 arg8 harg8 arg9 harg9 hc0 hc1 x0 x1 x2 x3 x4 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before4_W_κ`). An assignment of the conditions no point meets is no case (`False.elim`). -/
def outsAt4 (c : Dev nD) : (n : ℕ) → n < cfg4.N → Vec F S1024x1024 .bf16 × Vec F S1024x1024 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h0 : (n + 1) % 4 = 0 then
      if h1 : (n + 1) % 4 = 3 then
        False.elim (by have hN : n + 1 < 256 := lt_of_lt_of_eq hn (show cfg4.N = 256 from N_4); omega)
      else
        (out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩))
    else
      if h1 : (n + 1) % 4 = 3 then
        (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2)
      else
        (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2)

/-- `outsAt4` at a point of case A: that case's contents. -/
theorem outsAt4_A (c : Dev nD) (t : Fin cfg4.N) (h0 : t.val % 4 = 0) (h1 : ¬t.val % 4 = 3) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 4 = 0) (h1 : ¬t.val % 4 = 3) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 4 = 0) (h1 : t.val % 4 = 3) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt4`'s scratch components), the others at anything, and the generator register
    at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut spec4 c [cc4_scratch0]) ∗ (∃ r, prngReg c r))

/-- Before the first point the scratch buffer is free. -/
theorem PhiS4_zero (c : Dev nD) (n : ℕ) (h : n ≤ cfg4.N) (hz : n = 0) : PhiS4 V c n h = Pipeline.ΦA spec4 c := by
  subst hz; rfl

/-- After point `n` (before point `n + 1`): the carried scratch at that point's contents. -/
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut spec4 c [cc4_scratch0]) ∗ (∃ r, prngReg c r)) := rfl

/-- Before a point that is not the first: the carried scratch at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut spec4 c [cc4_scratch0]) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt4`; the invariant the class's
    (`PhiS4`: the class's `ΦA` before the first point, then the scoped rest with the carried scratch at `outsAt4`'s component);
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
  Φ t := PhiS4 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq4 (c : Dev nD) (w : Fin cfg4.W) : (dat4 V c).A w = V c (Pipeline.arrRef spec4 w) := by
  dsimp only [dat4]

/-- The invariant at a point's start (the proof data at `t.castSucc`), restated at `t.val`. -/
theorem PhiS4_castSucc (c : Dev nD) (t : Fin cfg4.N) :
    (dat4 V c).Φ t.castSucc = PhiS4 V c t.val (Nat.le_of_lt t.isLt) := by
  dsimp only [dat4]; exact Pipeline.Dat.Φ_castSucc (PhiS4 V c) t

/-- What the body leaves, window by window (the proof data's `match` reduced by `dsimp`). -/
theorem after4_0 (c : Dev nD) (t : Fin cfg4.N) : (dat4 V c).after 0 t = iblk4 V c 0 t := by dsimp only [dat4]
/-- What window 1's staging buffer holds after a point of region 4. -/
theorem after4_1 (c : Dev nD) (t : Fin cfg4.N) : (dat4 V c).after 1 t = iblk4 V c 1 t := by dsimp only [dat4]
/-- What window 2's staging buffer holds after a point of region 4. -/
theorem after4_2 (c : Dev nD) (t : Fin cfg4.N) : (dat4 V c).after 2 t = iblk4 V c 2 t := by dsimp only [dat4]
/-- What window 3's staging buffer holds after a point of region 4. -/
theorem after4_3 (c : Dev nD) (t : Fin cfg4.N) : (dat4 V c).after 3 t = iblk4 V c 3 t := by dsimp only [dat4]
/-- What window 4's staging buffer holds after a point of region 4. -/
theorem after4_4 (c : Dev nD) (t : Fin cfg4.N) : (dat4 V c).after 4 t = iblk4 V c 4 t := by dsimp only [dat4]
/-- What window 5's staging buffer holds after a point of region 4. -/
theorem after4_5 (c : Dev nD) (t : Fin cfg4.N) : (dat4 V c).after 5 t = (outsAt4 V c t.val t.isLt).1 := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
/-- What window 1's staging buffer holds before a point of region 4: its block. -/
theorem before4_1 (c : Dev nD) (t : Fin cfg4.N) (d) : (dat4 V c).before 1 t d = iblk4 V c 1 t :=
  before4_1_of V (dat4 V c) (A_eq4 V c 1) (after4_1 V c) t d
/-- What window 2's staging buffer holds before a point of region 4: its block. -/
theorem before4_2 (c : Dev nD) (t : Fin cfg4.N) (d) : (dat4 V c).before 2 t d = iblk4 V c 2 t :=
  before4_2_of V (dat4 V c) (A_eq4 V c 2) (after4_2 V c) t d
/-- What window 3's staging buffer holds before a point of region 4: its block. -/
theorem before4_3 (c : Dev nD) (t : Fin cfg4.N) (d) : (dat4 V c).before 3 t d = iblk4 V c 3 t :=
  before4_3_of V (dat4 V c) (A_eq4 V c 3) (after4_3 V c) t d
/-- What window 4's staging buffer holds before a point of region 4: its block. -/
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point: the inputs' memrefs hold their blocks (`before4_W`); the closed forms say which case the point is in (`by_cases`), an output the case reads before covering holds what the point before left (`before4_W_κ`); so the
    run applies; the invariant hands the body the carried scratch at what the point before left (`PhiS4_pos`; at anything at the first point, `PhiS4_zero`), the other scratch buffers and the generator register at some state, and takes the carried scratch back at this point's contents (`PhiS4_succ`, by `scoverK_κ_N`); the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 256 := lt_of_lt_of_eq t.isLt (show cfg4.N = 256 from N_4)
  by_cases h0 : t.val % 4 = 0
  · by_cases h1 : t.val % 4 = 3
    · exfalso; omega
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
      by_cases hz : t.val = 0
      · rw [PhiS4_castSucc V c t, PhiS4_zero V c _ _ hz, PhiA4_eq]
        rw [outsAt4_A V c t h0 h1]
        unfold sout4_A_0; (try dsimp only)
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitr [Hr]
            swap; · iexact Hr
            unfold owns; iexists _; isplitr
            swap; · iexact HS0
            ipureintro; exact View.read_writes_of_cover _ _ _ _ _ (scover4_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS4_castSucc V c t, PhiS4_pos V c _ _ hz]
        rw [outsAt4_A V c t h0 h1]
        unfold sout4_A_0; (try dsimp only)
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hr Hg]
        · isplitl [HS0 Hr]
          · isplitr [Hr]
            swap; · iexact Hr
            unfold owns; iexists _; isplitr
            swap; · iexact HS0
            ipureintro; exact View.read_writes_of_cover _ _ _ _ _ (scover4_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [show (dat4 V c).leavesExact 5 t = owns (c : Thread nD τ) (ms4_5 t) fullShare ((dat4 V c).after 5 t) from by
      unfold Dat.leavesExact; rw [liveAt4_5_C t (fun h => h0 ((hcond4_0 t).mp h)) ((hcond4_1 t).mpr h1)], after4_5]
      by_cases hz : t.val = 0
      · exfalso; have hN : t.val < 256 := lt_of_lt_of_eq t.isLt (show cfg4.N = 256 from N_4); omega
      · rw [PhiS4_castSucc V c t, PhiS4_pos V c _ _ hz]
        rw [outsAt4_C V c t h0 h1]
        unfold out4_C_5 sout4_C_0; (try dsimp only)
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hr Hg]
        · isplitl [HS0 Hr]
          · isplitr [Hr]
            swap; · iexact Hr
            unfold owns; iexists _; isplitr
            swap; · iexact HS0
            ipureintro; exact View.read_writes_of_cover _ _ _ _ _ (scover4_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover4_C_5 c _ _ _ _ _ _ _ _ _ _ _ _ _ _ _ _ _ _ _ _ _ _ _)
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [Dat.leavesExact_idle (dat4 V c) 5 t (idleAt4_5_B t (fun h => h0 ((hcond4_0 t).mp h)) (fun h => h1 ((hcond4_1 t).mp h))) (noFlush4_5_B t (fun h => h0 ((hcond4_0 t).mp h)) (fun h => h1 ((hcond4_1 t).mp h)))]
      by_cases hz : t.val = 0
      · exfalso; have hN : t.val < 256 := lt_of_lt_of_eq t.isLt (show cfg4.N = 256 from N_4); omega
      · rw [PhiS4_castSucc V c t, PhiS4_pos V c _ _ hz]
        rw [outsAt4_B V c t h0 h1]
        unfold sout4_B_0; (try dsimp only)
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitr [Hr]
            swap; · iexact Hr
            unfold owns; iexists _; isplitr
            swap; · iexact HS0
            ipureintro; exact View.read_writes_of_cover _ _ _ _ _ (scover4_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

/-- What the launch hands the region (`ΦA`) is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives `ΦA` back: the carried scratch's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 256 := N_4; omega)

end Cert.KernelIdeal.Fr

end
-- ==== Proof.KernelIdeal.Bounds.lean ====
module

public import proofs.«01_k».proof.Proof.KernelIdeal.Reg0
public import proofs.«01_k».proof.Proof.KernelIdeal.Reg1
public import proofs.«01_k».proof.Proof.KernelIdeal.Reg2
public import proofs.«01_k».proof.Proof.KernelIdeal.Reg3
public import proofs.«01_k».proof.Proof.KernelIdeal.Reg4Dat

/-! The contents of every buffer at each boundary between two calls or host stretches, as a fold from the launch memory. -/

@[expose] public section

-- membership in a rectangle of production extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
/-- Each operation of `hostOps0` writes only references listed in `hostOps0_W`. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v10, main_v11, main_v12, main_v13, main_v14, main_v15, main_v16, main_v17, main_v18, main_v19, main_v20, main_v21, main_v22, main_v23, main_v24]
/-- Each operation of `hostOps5` writes only references listed in `hostOps5_W`. -/
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are unchanged at boundary 0. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are unchanged at boundary 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
/-- At boundary 2 a window's array holds what region 0 leaves in it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- At boundary 2 a buffer that is no window's array of region 0 is as it was before the region. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are unchanged at boundary 2. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Region 0 leaves every buffer outside its windows' arrays as it was. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
/-- At boundary 3 a window's array holds what region 1 leaves in it. -/
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
/-- At boundary 3 a buffer that is no window's array of region 1 is as it was before the region. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are unchanged at boundary 3. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V2 m ρ) c).arrAt w cfg1.N = V3 m ρ c (Pipeline.arrRef spec1 w) :=
  (W3_arr m ρ c w).symm
/-- Region 1 leaves every buffer outside its windows' arrays as it was. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`) (region 3's entry). -/
def W4 (c : Dev nD) : Valuation τ sig (Elt F) :=
  Pipeline.withArrays spec2 c (W3 m ρ c) fun w => (dat2 (V3 m ρ) c).arrAt w cfg2.N
/-- At boundary 4 a window's array holds what region 2 leaves in it. -/
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
/-- At boundary 4 a buffer that is no window's array of region 2 is as it was before the region. -/
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- The arguments are unchanged at boundary 4. -/
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
/-- Region 2 leaves every buffer outside its windows' arrays as it was. -/
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`) (region 4's entry). -/
def W5 (c : Dev nD) : Valuation τ sig (Elt F) :=
  Pipeline.withArrays spec3 c (W4 m ρ c) fun w => (dat3 (V4 m ρ) c).arrAt w cfg3.N
/-- At boundary 5 a window's array holds what region 3 leaves in it. -/
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
/-- At boundary 5 a buffer that is no window's array of region 3 is as it was before the region. -/
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
/-- The arguments are unchanged at boundary 5. -/
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
/-- Region 3 leaves every buffer outside its windows' arrays as it was. -/
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec4 c (W5 m ρ c) fun w => (dat4 (V5 m ρ) c).arrAt w cfg4.N
/-- At boundary 6 a window's array holds what region 4 leaves in it. -/
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
/-- At boundary 6 a buffer that is no window's array of region 4 is as it was before the region. -/
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- A reference that is none of region 4's OUTPUT arrays keeps its entry contents across it: an input window's
    array is never written back (`Dat.arrAt_in`, `A_eq4`); any other buffer is left as is. -/
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (V5 m ρ) c).arrAt_in w (h w rfl) _).trans (A_eq4 (V5 m ρ) c w))
  · exact W6_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
/-- The arguments are unchanged at boundary 6. -/
theorem W6_args (c : Dev nD) : ∀ a ∈ argRefs, W6 m ρ c (Proc.devRef .tc a) = m ((c : Thread nD τ).loc a) :=
  fun a ha => (W6_of m ρ c a (argsIn4 a ha)).trans (W5_args m ρ c a ha)
/-- The same read at the TensorCore's references (region 4's exit contents). -/
abbrev V6 : (c : Dev nD) → (b : Ref sig .tc) → Buf (Elt F) ((c : Thread nD τ).loc b) := fun c b => W6 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V5 m ρ) c).arrAt w cfg4.N = V6 m ρ c (Pipeline.arrRef spec4 w) :=
  (W6_arr m ρ c w).symm
/-- Region 4 leaves every buffer outside its windows' arrays as it was. -/
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- After `hostOps5`. -/
abbrev W7 : Dev nD → Valuation τ sig (Elt F) := fun c => StableHlo.after hostOps5 (W6 m ρ c)
/-- A reference `hostOps5` does not write keeps its contents across it. -/
theorem W7_of (c : Dev nD) (r : Ref sig .tc) (h : r ∉ hostOps5_W) : W7 m ρ c (Proc.devRef .tc r) = W6 m ρ c (Proc.devRef .tc r) :=
  StableHlo.after_of_writes_sub hostOps5 _ hostOps5_writes h
/-- The arguments are unchanged at boundary 7. -/
theorem W7_args (c : Dev nD) : ∀ a ∈ argRefs, W7 m ρ c (Proc.devRef .tc a) = m ((c : Thread nD τ).loc a) :=
  fun a ha => (W7_of m ρ c a (hostOps5_args a ha)).trans (W6_args m ρ c a ha)

/-! ### The arguments end as launched: no host stretch writes one and no region may change one (a region reads it
    through an input window or bypasses it) -/

/-- Argument 0 is unchanged at the end. -/
theorem W7_main_arg0 (c : Dev nD) : W7 m ρ c (Proc.devRef .tc main_arg0) = m ((c : Thread nD τ).loc main_arg0) :=
  W7_args m ρ c main_arg0 (by decide)
/-- Argument 1 is unchanged at the end. -/
theorem W7_main_arg1 (c : Dev nD) : W7 m ρ c (Proc.devRef .tc main_arg1) = m ((c : Thread nD τ).loc main_arg1) :=
  W7_args m ρ c main_arg1 (by decide)
/-- Argument 2 is unchanged at the end. -/
theorem W7_main_arg2 (c : Dev nD) : W7 m ρ c (Proc.devRef .tc main_arg2) = m ((c : Thread nD τ).loc main_arg2) :=
  W7_args m ρ c main_arg2 (by decide)
/-- Argument 3 is unchanged at the end. -/
theorem W7_main_arg3 (c : Dev nD) : W7 m ρ c (Proc.devRef .tc main_arg3) = m ((c : Thread nD τ).loc main_arg3) :=
  W7_args m ρ c main_arg3 (by decide)
/-- Argument 4 is unchanged at the end. -/
theorem W7_main_arg4 (c : Dev nD) : W7 m ρ c (Proc.devRef .tc main_arg4) = m ((c : Thread nD τ).loc main_arg4) :=
  W7_args m ρ c main_arg4 (by decide)
/-- Argument 5 is unchanged at the end. -/
theorem W7_main_arg5 (c : Dev nD) : W7 m ρ c (Proc.devRef .tc main_arg5) = m ((c : Thread nD τ).loc main_arg5) :=
  W7_args m ρ c main_arg5 (by decide)
/-- Argument 6 is unchanged at the end. -/
theorem W7_main_arg6 (c : Dev nD) : W7 m ρ c (Proc.devRef .tc main_arg6) = m ((c : Thread nD τ).loc main_arg6) :=
  W7_args m ρ c main_arg6 (by decide)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
/-- No loop needs a variant. -/
abbrev 𝒱₀ : Variants := Variants.none
/-- No core owes another anything: no level is assigned. -/
abbrev L : GSem nD τ sig → Finset Unit := fun _ => ∅
/-- Every semaphore is at level 0. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

end Cert.KernelIdeal.Fr

end
-- ==== Proof.KernelIdeal.Segs.lean ====
module

public import proofs.«01_k».proof.Proof.KernelIdeal.Bounds

/-! The five calls as segments of @main over the thread state "every unscoped buffer at the boundary's contents". -/

@[expose] public section

-- membership in a rectangle of production extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 4 (custom_call 4) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) (A_eq4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : (Pipeline.ΦA spec4 c : sProp 𝕄) ⊢ (pdats m ρ 4 c).Φ 0 := hin4 (V5 m ρ) c
    iintro ⟨Hp, -, Hr⟩
    iapply h0
    unfold Pipeline.ΦA
    isplitl [Hr]; · iexact Hr
    iexact Hp
  hout c := by
    rw [Pipeline.ownSems0_none]
    have h0 : (pdats m ρ 4 c).Φ (Fin.last _) ⊢ (Pipeline.ΦA spec4 c : sProp 𝕄) := hout4 (V5 m ρ) c
    iintro H
    ihave H' := h0 $$ H
    unfold Pipeline.ΦA
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .host (hseg hostOps5 hostOps5_sub hostOps5_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

end Cert.KernelIdeal.Fr

end
-- ==== Proof.KernelIdeal.Run.lean ====
module

public import proofs.«01_k».proof.Proof.KernelIdeal.Segs

/-! The whole program's run, with every final array named, and its frame claim. -/

@[expose] public section

-- membership in a rectangle of production extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- The run: from any memory with zero counters every weakly fair execution of @main terminates, nothing faulting, and every
    final state has each unscoped buffer at the last boundary's contents `W7` and every semaphore counter at zero. -/
theorem run_main : θ_run defs (onTc (τ := τ) (main (F := F))) ⟨m, fun _ => 0, ρ⟩ (fun r => (∀ c : Dev nD,
      ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The frame claim: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c),
       (h.1 c _ (mem_uc main_arg5 (by decide))).trans (W7_main_arg5 m ρ c),
       (h.1 c _ (mem_uc main_arg6 (by decide))).trans (W7_main_arg6 m ρ c)⟩, h.2⟩)
    (run_main m ρ)

end Cert.KernelIdeal.Fr

end
-- ==== Proof.Value.Spec.lean ====
module

public import Idealize.ShloMosaic.PureOps.Ideal

/-! The layer's mathematics on rows and entries, as functions of plain index functions: what one entry of every array is,
   with no shape, block or grid in sight. Both programs are shown to compute these functions. -/

@[expose] public section

noncomputable section

namespace Cert.Spec

open Idealize.ShloMosaic

/-- One entry of a row after the RMS normalisation, the gain and the division by the smoothing scale. -/
def normv (x g s : Fin 8192 → EReal) (k : Fin 8192) : EReal :=
  Ideal.div (x k * Ideal.rsqrt (Ideal.div (∑ j, x j * x j) (Ideal.ofBits .f32 1174405120#32) + Ideal.ofBits .f32 897988541#32) * g k) (s k)

/-- The largest magnitude in a row. -/
def amax {n : ℕ} (v : Fin n → EReal) : EReal :=
  Finset.fold max (Ideal.ofBits .f32 4286578688#32) (fun j => (FloatOps.absf (F := Ideal) (φ := .f32) (v j) : EReal)) Finset.univ

/-- The quantiser's scale of a row whose largest magnitude is `A`. -/
def scale (A : EReal) : EReal := if 0 < A then Ideal.div A (Ideal.ofBits .f32 1123942400#32) else 1

/-- The quantiser's code of the entry `v` at the scale `sc`. -/
def code (v sc : EReal) : BitVec 8 :=
  FloatOps.fptosi (F := Ideal) (φ := .f32) 8 (min (Ideal.ofBits .f32 1123942400#32) (max (Ideal.ofBits .f32 3271426048#32)
    (Ideal.liftRound Ideal.roundHalfEven (Ideal.div v sc))))

/-- A code as a number. -/
def num (b : BitVec 8) : EReal := FloatOps.sitofp (F := Ideal) .bf16 b

/-- The product of a row of codes and a column of codes. -/
def dot {n : ℕ} (a w : Fin n → BitVec 8) : EReal := ∑ x, num (a x) * num (w x)

/-- The gated activation. -/
def act (g u : EReal) : EReal := g * Ideal.logistic g * u

/-! ### The layer, entry by entry -/

section Layer

variable (x : Fin 8192 → Fin 8192 → EReal) (g s : Fin 8192 → EReal) (w : Fin 8192 → Fin 47104 → BitVec 8) (ws : Fin 47104 → EReal)
  (wd : Fin 18432 → Fin 8192 → BitVec 8) (wds : Fin 8192 → EReal)

/-- The scale of row `r` of the normalised input. -/
def xs (r : Fin 8192) : EReal := scale (amax (normv (x r) g s))
/-- The codes of row `r` of the normalised input. -/
def xc (r k : Fin 8192) : BitVec 8 := code (normv (x r) g s k) (xs x g s r)
/-- The first product, dequantised. -/
def z (r : Fin 8192) (c : Fin 47104) : EReal := dot (xc x g s r) (fun k => w k c) * xs x g s r * ws c
/-- The queries: the first 8192 columns of the product. -/
def q (r c : Fin 8192) : EReal := z x g s w ws r ⟨c.val, by omega⟩
/-- The keys: the next 1024 columns. -/
def k (r : Fin 8192) (c : Fin 1024) : EReal := z x g s w ws r ⟨8192 + c.val, by omega⟩
/-- The values: the next 1024 columns. -/
def v (r : Fin 8192) (c : Fin 1024) : EReal := z x g s w ws r ⟨9216 + c.val, by omega⟩
/-- The hidden activation: the gate's columns and the columns they multiply. -/
def h (r : Fin 8192) (c : Fin 18432) : EReal :=
  act (z x g s w ws r ⟨10240 + c.val, by omega⟩) (z x g s w ws r ⟨28672 + c.val, by omega⟩)
/-- The scale of row `r` of the hidden activation. -/
def hs (r : Fin 8192) : EReal := scale (amax (h x g s w ws r))
/-- The codes of the hidden activation. -/
def hc (r : Fin 8192) (c : Fin 18432) : BitVec 8 := code (h x g s w ws r c) (hs x g s w ws r)
/-- The output: the input plus the second product, dequantised. -/
def y (r c : Fin 8192) : EReal := x r c + dot (hc x g s w ws r) (fun k => wd k c) * hs x g s w ws r * wds c

end Layer

end Cert.Spec

end
-- ==== Proof.Value.KPay0.lean ====
module

public import proofs.«01_k».proof.Proof.Gen.KernelIdeal.Skeleton
public import proofs.«01_k».proof.Proof.Value.Spec
public import Idealize.ShloMosaic.Lib.Pointwise

/-! The stored values of the two quantising bodies (`norm_quant`, `h_quant`), entry by entry. -/

@[expose] public section

set_option maxRecDepth 16384

noncomputable section

namespace Cert.KernelIdeal.Val

open Idealize.ShloMosaic Cert.KernelIdeal Cert.KernelIdeal.Gen

/-- The scale column that both quantisers form from a column of largest magnitudes. -/
def scaleCol (a : FVec Ideal S128x1 .f32) : FVec Ideal S128x1 .f32 :=
  select (cmpf .ogt a (broadcast S128x1 (Scalar.ofBits (F := Ideal) .f32 0x00000000#32)))
    (divf a (broadcast S128x1 (Scalar.ofBits (F := Ideal) .f32 0x42FE0000#32))) (broadcast S128x1 (Scalar.ofBits (F := Ideal) .f32 0x3F800000#32))

/-- An entry of the scale column is the quantiser's scale of that row's largest magnitude. -/
theorem scaleCol_at (a : FVec Ideal S128x1 .f32) (r : Fin 128) : scaleCol a (ix2 r (0 : Fin 1)) = Spec.scale (a (ix2 r 0)) := by
  pointwise [scaleCol]; rfl

/-- The column of the largest magnitudes of a block of normalised rows. -/
theorem amaxCol_at (v : FVec Ideal S128x8192 .f32) (r : Fin 128) :
    shapeCast S128x1 (multiReduction .maximumf [1] S128 (absf v) 0xFF800000#32 reduces_S128x8192_S128 (.inl rfl) rfl) shapeCasts_S128_S128x1
      (ix2 r (0 : Fin 1)) = Spec.amax (fun k : Fin 8192 => v (ix2 r k)) := by
  pointwise []; rfl

/-- The codes of a block of normalised rows at a column of scales. -/
theorem code_at (v : FVec Ideal S128x8192 .f32) (a : FVec Ideal S128x1 .f32) (r : Fin 128) (k : Fin 8192) :
    fptosi (F := Ideal) 8 (minimumf (broadcast S128x8192 (Scalar.ofBits (F := Ideal) .f32 0x42FE0000#32))
      (maximumf (broadcast S128x8192 (Scalar.ofBits (F := Ideal) .f32 0xC2FE0000#32))
        (roundeven (divf v (broadcastTo S128x8192 a broadcasts_S128x1_S128x8192))))) (ix2 r k)
      = Spec.code (v (ix2 r k)) (a (ix2 r 0)) := by
  pointwise []; rfl

/-- The normalised row, entry by entry. -/
theorem k0_pay1_at (x : FVec Ideal S128x8192 .bf16) (g s : FVec Ideal S1x8192 .f32) (r : Fin 128) (k : Fin 8192) :
    k0_pay1 (F := Ideal) x g s (ix2 r k)
      = Spec.normv (fun j => x (ix2 r j)) (fun j => g (ix2 0 j)) (fun j => s (ix2 0 j)) k := by
  pointwise [k0_pay1]; rfl

/-- The row's scale. -/
theorem k0_pay2_at (x : FVec Ideal S128x8192 .bf16) (g s : FVec Ideal S1x8192 .f32) (r : Fin 128) :
    k0_pay2 (F := Ideal) x g s (ix2 r (0 : Fin 1))
      = Spec.scale (Spec.amax (Spec.normv (fun j => x (ix2 r j)) (fun j => g (ix2 0 j)) (fun j => s (ix2 0 j)))) := by
  unfold k0_pay2
  refine (scaleCol_at _ r).trans ?_
  rw [amaxCol_at]
  simp only [k0_pay1_at]

/-- The row's codes. -/
theorem k0_pay3_at (x : FVec Ideal S128x8192 .bf16) (g s : FVec Ideal S1x8192 .f32) (r : Fin 128) (k : Fin 8192) :
    k0_pay3 (F := Ideal) x g s (ix2 r k)
      = Spec.code (Spec.normv (fun j => x (ix2 r j)) (fun j => g (ix2 0 j)) (fun j => s (ix2 0 j)) k)
          (Spec.scale (Spec.amax (Spec.normv (fun j => x (ix2 r j)) (fun j => g (ix2 0 j)) (fun j => s (ix2 0 j))))) := by
  refine (code_at _ _ r k).trans ?_
  rw [k0_pay1_at, k0_pay2_at]

/-- The row's scale in every lane. -/
theorem k0_pay4_at (x : FVec Ideal S128x8192 .bf16) (g s : FVec Ideal S1x8192 .f32) (r : Fin 128) (l : Fin 128) :
    k0_pay4 (F := Ideal) x g s (ix2 r l)
      = Spec.scale (Spec.amax (Spec.normv (fun j => x (ix2 r j)) (fun j => g (ix2 0 j)) (fun j => s (ix2 0 j)))) := by
  pointwise [k0_pay4]
  simp only [k0_pay2_at]

/-- The scale of the hidden row from its largest magnitude. -/
theorem k3_pay1_at (a : FVec Ideal S128x1 .f32) (r : Fin 128) :
    k3_pay1 (F := Ideal) a (ix2 r (0 : Fin 1)) = Spec.scale (a (ix2 r 0)) := by
  pointwise [k3_pay1]; rfl

/-- The codes of the hidden row. -/
theorem k3_pay2_at (v : FVec Ideal S128x18432 .f32) (a : FVec Ideal S128x1 .f32) (r : Fin 128) (k : Fin 18432) :
    k3_pay2 (F := Ideal) v a (ix2 r k) = Spec.code (v (ix2 r k)) (Spec.scale (a (ix2 r 0))) := by
  pointwise [k3_pay2]
  simp only [k3_pay1_at]
  rfl

/-- The scale of the hidden row in every lane. -/
theorem k3_pay3_at (a : FVec Ideal S128x1 .f32) (r : Fin 128) (l : Fin 128) :
    k3_pay3 (F := Ideal) a (ix2 r l) = Spec.scale (a (ix2 r 0)) := by
  pointwise [k3_pay3]
  simp only [k3_pay1_at]

end Cert.KernelIdeal.Val

end
-- ==== Proof.Value.KReg0.lean ====
module

public import proofs.«01_k».proof.Proof.KernelIdeal.Reg0
public import proofs.«01_k».proof.Proof.Value.KPay0
public import Idealize.ShloMosaic.Lib.Pipeline.ValueKit

/-! Region 0's result arrays, entry by entry: the codes and the scales of the normalised input. -/

@[expose] public section

set_option maxRecDepth 16384

noncomputable section

namespace Cert.KernelIdeal.Val

open Idealize.ShloMosaic Cert.KernelIdeal Cert.KernelIdeal.Gen Cert.KernelIdeal.Fr
open Idealize.ShloMosaic.TcCoe

variable (V : (c : Dev nD) → (b : Ref sig .tc) → Buf (Elt Ideal) ((c : Thread nD τ).loc b)) (c : Dev nD)

/-- The block index of each window at a grid point. -/
theorem idx0 : ∀ t : Fin cfg0.N, win0_0.index t = ![t.val, 0] ∧ win0_1.index t = ![0, 0] ∧ win0_2.index t = ![0, 0]
    ∧ win0_3.index t = ![t.val, 0] ∧ win0_4.index t = ![t.val, 0] := by decide +kernel

/-- The number of grid points. -/
theorem lt0 (t : Fin cfg0.N) : t.val < 64 := t.isLt

/-- An entry of window 0's block is an entry of its array. -/
theorem iblk0_0_at (t : Fin cfg0.N) (r : Fin 128) (k : Fin 8192) :
    iblk0 V c 0 t (ix2 r k) = V c main_v0 (ix2 (⟨t.val * 128 + r.val, by have := lt0 t; omega⟩ : Fin 8192) k) := by
  blk_ext [iblk0, (idx0 t).1]
/-- An entry of window 1's block is an entry of its array. -/
theorem iblk0_1_at (t : Fin cfg0.N) (r : Fin 1) (k : Fin 8192) :
    iblk0 V c 1 t (ix2 r k) = V c main_v3 (ix2 (0 : Fin 1) k) := by
  blk_ext [iblk0, (idx0 t).2.1]
/-- An entry of window 2's block is an entry of its array. -/
theorem iblk0_2_at (t : Fin cfg0.N) (r : Fin 1) (k : Fin 8192) :
    iblk0 V c 2 t (ix2 r k) = V c main_v4 (ix2 (0 : Fin 1) k) := by
  blk_ext [iblk0, (idx0 t).2.2.1]

/-- The codes' array after the region. -/
theorem arr0_3 : (dat0 V c).arrAt 3 cfg0.N
    = fun i : S8192x8192.Idx => Spec.xc (fun r k => V c main_v0 (ix2 r k)) (fun k => V c main_v3 (ix2 (0 : Fin 1) k))
        (fun k => V c main_v4 (ix2 (0 : Fin 1) k)) (i 0) (i 1) := by
  refine (dat0 V c).arrAt_eq_of_covers 3 _ (by decide +kernel) fun t hf y => ?_
  blk_simp
  rw [after0_3]
  unfold out0_3
  frame_out
  obtain ⟨r, k, rfl⟩ : ∃ (r : Fin 128) (k : Fin 8192), y = ix2 r k := ⟨y 0, y 1, ValueIdx.eq_ix2 y⟩
  rw [show ((View.whole main_v5_0).slice (win0_3.rect t)).emb (ix2 r k) 0 = (⟨t.val * 128 + r.val, by have := lt0 t; omega⟩ : Fin 8192) from
      Fin.ext (by blk_simp [(idx0 t).2.2.2.1]),
    show ((View.whole main_v5_0).slice (win0_3.rect t)).emb (ix2 r k) 1 = k from Fin.ext (by blk_simp [(idx0 t).2.2.2.1])]
  refine (k0_pay3_at _ _ _ r k).trans ?_
  simp only [iblk0_0_at, iblk0_1_at, iblk0_2_at]
  rfl

/-- The scales' array after the region: a row's scale in every lane. -/
theorem arr0_4 : (dat0 V c).arrAt 4 cfg0.N
    = fun i : S8192x128.Idx => Spec.xs (fun r k => V c main_v0 (ix2 r k)) (fun k => V c main_v3 (ix2 (0 : Fin 1) k))
        (fun k => V c main_v4 (ix2 (0 : Fin 1) k)) (i 0) := by
  refine (dat0 V c).arrAt_eq_of_covers 4 _ (by decide +kernel) fun t hf y => ?_
  blk_simp
  rw [after0_4]
  unfold out0_4
  frame_out
  obtain ⟨r, k, rfl⟩ : ∃ (r : Fin 128) (k : Fin 128), y = ix2 r k := ⟨y 0, y 1, ValueIdx.eq_ix2 y⟩
  rw [show ((View.whole main_v5_1).slice (win0_4.rect t)).emb (ix2 r k) 0 = (⟨t.val * 128 + r.val, by have := lt0 t; omega⟩ : Fin 8192) from
      Fin.ext (by blk_simp [(idx0 t).2.2.2.2])]
  refine (k0_pay4_at _ _ _ r k).trans ?_
  simp only [iblk0_0_at, iblk0_1_at, iblk0_2_at]
  rfl

end Cert.KernelIdeal.Val

end
-- ==== Proof.Value.KPay1.lean ====
module

public import proofs.«01_k».proof.Proof.Gen.KernelIdeal.Skeleton
public import proofs.«01_k».proof.Proof.Value.Spec
public import Idealize.ShloMosaic.Lib.Pointwise

/-! The stored values of the three bodies that multiply (`gate_up`, `qkv`, `down`), entry by entry. -/

@[expose] public section

set_option maxRecDepth 16384

noncomputable section

namespace Cert.KernelIdeal.Val

open Idealize.ShloMosaic Cert.KernelIdeal Cert.KernelIdeal.Gen

/-- The hidden activation of one block. -/
theorem k1_pay2_at (v0 : IVec S1024x8192 8) (v2 : FVec Ideal S1024x1 .f32) (v4 : IVec S8192x256 8) (v10 : FVec Ideal S1x256 .f32)
    (v14 : IVec S8192x256 8) (v20 : FVec Ideal S1x256 .f32) (r : Fin 1024) (k : Fin 256) :
    k1_pay2 (F := Ideal) v0 v2 v4 v10 v14 v20 (ix2 r k)
      = Spec.act (Spec.dot (fun x : Fin 8192 => v0 (ix2 r x)) (fun x => v4 (ix2 x k)) * v2 (ix2 r 0) * v10 (ix2 0 k))
          (Spec.dot (fun x : Fin 8192 => v0 (ix2 r x)) (fun x => v14 (ix2 x k)) * v2 (ix2 r 0) * v20 (ix2 0 k)) := by
  pointwise [k1_pay2]; rfl

/-- The largest magnitude in a row of the block. -/
theorem k1_pay3_at (v0 : IVec S1024x8192 8) (v2 : FVec Ideal S1024x1 .f32) (v4 : IVec S8192x256 8) (v10 : FVec Ideal S1x256 .f32)
    (v14 : IVec S8192x256 8) (v20 : FVec Ideal S1x256 .f32) (r : Fin 1024) :
    k1_pay3 (F := Ideal) v0 v2 v4 v10 v14 v20 (ix2 r (0 : Fin 1))
      = Spec.amax (fun k : Fin 256 => k1_pay2 (F := Ideal) v0 v2 v4 v10 v14 v20 (ix2 r k)) := by
  pointwise [k1_pay3]; rfl

/-- The running maximum takes the block's in. -/
theorem k1_pay1_at (v30 : FVec Ideal S1024x1 .f32) (v34 : FVec Ideal S1024x128 .f32) (r : Fin 1024) (l : Fin 128) :
    k1_pay1 (F := Ideal) v30 v34 (ix2 r l) = max (v34 (ix2 r l)) (v30 (ix2 r 0) : EReal) := by
  pointwise [k1_pay1]

/-- The running maximum starts at zero. -/
theorem k1_pay4_at (r : Fin 1024) (l : Fin 128) : k1_pay4 (F := Ideal) (ix2 r l) = (0 : EReal) := by
  pointwise [k1_pay4]

/-- One block of the attention projections. -/
theorem k2_pay1_at (v0 : IVec S1024x8192 8) (v2 : IVec S8192x512 8) (v6 : FVec Ideal S1024x1 .f32) (v10 : FVec Ideal S1x512 .f32)
    (r : Fin 1024) (k : Fin 512) :
    k2_pay1 (F := Ideal) v0 v2 v6 v10 (ix2 r k)
      = Spec.dot (fun x : Fin 8192 => v0 (ix2 r x)) (fun x => v2 (ix2 x k)) * v6 (ix2 r 0) * v10 (ix2 0 k) := by
  pointwise [k2_pay1]; rfl

/-- The accumulator starts at zero. -/
theorem k4_pay1_at (r : Fin 1024) (l : Fin 1024) : k4_pay1 (F := Ideal) (ix2 r l) = (0 : EReal) := by
  pointwise [k4_pay1]

/-- The accumulator takes one block's product in. -/
theorem k4_pay2_at (v3 : FVec Ideal S1024x1024 .f32) (v4 : IVec S1024x4608 8) (v6 : IVec S4608x1024 8) (r : Fin 1024) (k : Fin 1024) :
    k4_pay2 (F := Ideal) v3 v4 v6 (ix2 r k)
      = v3 (ix2 r k) + Spec.dot (fun x : Fin 4608 => v4 (ix2 r x)) (fun x => v6 (ix2 x k)) := by
  pointwise [k4_pay2]; rfl

/-- The output block from the full product. -/
theorem k4_pay3_at (v17 : FVec Ideal S1024x1024 .f32) (v18 : FVec Ideal S1024x1 .f32) (v22 : FVec Ideal S1x1024 .f32)
    (v26 : FVec Ideal S1024x1024 .bf16) (r : Fin 1024) (k : Fin 1024) :
    k4_pay3 (F := Ideal) v17 v18 v22 v26 (ix2 r k)
      = (v26 (ix2 r k) + v17 (ix2 r k) * v18 (ix2 r 0) * v22 (ix2 0 k) : EReal) := by
  pointwise [k4_pay3]

end Cert.KernelIdeal.Val

end
-- ==== Proof.Value.Forms.lean ====
module

public import proofs.«01_k».proof.Proof.Gen.KernelIdeal.Skeleton
public import proofs.«01_k».proof.Proof.Value.Spec
public import Idealize.ShloMosaic.PureOps.Ideal.Laws
public import Idealize.ShloMosaic.Lib.Pointwise

/-! The functions of arrays that the multiplying regions compute, and how a row's largest magnitude is bounded. -/

@[expose] public section

set_option maxRecDepth 16384

noncomputable section

namespace Cert.KernelIdeal.Val

open Idealize.ShloMosaic Cert.KernelIdeal Cert.KernelIdeal.Gen

/-- One entry of the first product, dequantised, from the arrays that hold its operands. -/
def zOf (a : S8192x8192.Idx → BitVec 8) (xs : S8192x128.Idx → EReal) (w : S8192x47104.Idx → BitVec 8) (ws : S1x47104.Idx → EReal)
    (r : Fin 8192) (n : Fin 47104) : EReal :=
  Spec.dot (fun k : Fin 8192 => a (ix2 r k)) (fun k => w (ix2 k n)) * xs (ix2 r 0) * ws (ix2 0 n)

/-- One entry of the hidden activation, from the same arrays. -/
def hOf (a : S8192x8192.Idx → BitVec 8) (xs : S8192x128.Idx → EReal) (w : S8192x47104.Idx → BitVec 8) (ws : S1x47104.Idx → EReal)
    (r : Fin 8192) (n : Fin 18432) : EReal :=
  Spec.act (zOf a xs w ws r ⟨10240 + n.val, by omega⟩) (zOf a xs w ws r ⟨28672 + n.val, by omega⟩)

/-- One entry of the output, from the arrays that hold its operands. -/
def yOf (x : S8192x8192.Idx → EReal) (hc : S8192x18432.Idx → BitVec 8) (hs : S8192x128.Idx → EReal) (wd : S18432x8192.Idx → BitVec 8)
    (wds : S1x8192.Idx → EReal) (r n : Fin 8192) : EReal :=
  x (ix2 r n) + Spec.dot (fun k : Fin 18432 => hc (ix2 r k)) (fun k => wd (ix2 k n)) * hs (ix2 r 0) * wds (ix2 0 n)

/-- One magnitude. -/
def mag (v : EReal) : EReal := FloatOps.absf (F := Ideal) (φ := .f32) v

/-- A magnitude is not negative. -/
theorem mag_nonneg (v : EReal) : 0 ≤ mag v := by
  show (0 : EReal) ≤ max v (-v)
  rcases le_total 0 v with h | h
  · exact le_max_of_le_left h
  · exact le_max_of_le_right (by simpa using EReal.neg_le_neg_iff.mpr h)

/-- A bound on a row's largest magnitude is a bound on every magnitude. -/
theorem amax_le {n : ℕ} (v : Fin n → EReal) (z : EReal) : Spec.amax v ≤ z ↔ ∀ j, mag (v j) ≤ z := by
  unfold Spec.amax
  rw [Finset.fold_max_le]
  have hb : Ideal.ofBits .f32 4286578688#32 = (⊥ : EReal) := by simp [Ideal.ofBits, Ideal.ieee]
  rw [hb]
  exact ⟨fun h j => h.2 j (Finset.mem_univ j), fun h => ⟨bot_le, fun j _ => h j⟩⟩

end Cert.KernelIdeal.Val

end
-- ==== Proof.Value.KReg1.lean ====
module

public import proofs.«01_k».proof.Proof.KernelIdeal.Reg1
public import proofs.«01_k».proof.Proof.Value.KPay1
public import proofs.«01_k».proof.Proof.Value.Forms
public import Idealize.ShloMosaic.Lib.Pipeline.ValueKit

/-! Region 1's result arrays, entry by entry: the hidden activation and its rows' largest magnitudes. -/

@[expose] public section

set_option maxRecDepth 16384

noncomputable section

namespace Cert.KernelIdeal.Val

open Idealize.ShloMosaic Cert.KernelIdeal Cert.KernelIdeal.Gen Cert.KernelIdeal.Fr
open Idealize.ShloMosaic.TcCoe

variable (V : (c : Dev nD) → (b : Ref sig .tc) → Buf (Elt Ideal) ((c : Thread nD τ).loc b)) (c : Dev nD)

/-- The block index of each window at a grid point. -/
theorem idx1 : ∀ t : Fin cfg1.N, win1_0.index t = ![t.val / 72, 0] ∧ win1_1.index t = ![t.val / 72, 0] ∧ win1_2.index t = ![0, t.val % 72 + 40]
    ∧ win1_3.index t = ![0, t.val % 72 + 112] ∧ win1_4.index t = ![0, t.val % 72 + 40] ∧ win1_5.index t = ![0, t.val % 72 + 112]
    ∧ win1_6.index t = ![t.val / 72, t.val % 72] ∧ win1_7.index t = ![t.val / 72, 0] := by decide +kernel

/-- The result window is written back only at the last point of a run of points with one block. -/
theorem fl1 : ∀ t : Fin cfg1.N, (cfg1.win 7).flush t = true → t.val % 72 = 71 := by decide +kernel

/-- The number of grid points. -/
theorem lt1 (t : Fin cfg1.N) : t.val < 576 := t.isLt

/-- The row of the whole array that row `r` of point `t`'s block is. -/
def row1 (t : Fin cfg1.N) (r : Fin 1024) : Fin 8192 := ⟨t.val / 72 * 1024 + r.val, by have := lt1 t; omega⟩
/-- The column of the hidden activation that column `k` of point `t`'s block is. -/
def col1 (t : Fin cfg1.N) (k : Fin 256) : Fin 18432 := ⟨t.val % 72 * 256 + k.val, by omega⟩

/-- An entry of window 0's block is an entry of its array. -/
theorem iblk1_0_at (t : Fin cfg1.N) (r : Fin 1024) (k : Fin 8192) :
    iblk1 V c 0 t (ix2 r k) = V c main_v5_0 (ix2 (row1 t r) k) := by
  blk_ext [iblk1, (idx1 t).1, row1]
/-- An entry of window 1's block is an entry of its array. -/
theorem iblk1_1_at (t : Fin cfg1.N) (r : Fin 1024) :
    View.ld (iblk1 V c 1 t) (Rect.unit (s := S1024x128) ![0, 0] S1024x1.size inb_S1024x128_S1024x1_0_0) (ix2 r (0 : Fin 1)) = V c main_v5_1 (ix2 (row1 t r) (0 : Fin 128)) := by
  have e : View.ld (iblk1 V c 1 t) (Rect.unit (s := S1024x128) ![0, 0] S1024x1.size inb_S1024x128_S1024x1_0_0) (ix2 r (0 : Fin 1)) = iblk1 V c 1 t (ix2 r (0 : Fin 128)) := by
    refine congrArg (iblk1 V c 1 t) (funext fun a => Fin.ext ?_)
    match a with
    | ⟨0, _⟩ => show 0 + 1 * r.val = r.val; omega
    | ⟨1, _⟩ => rfl
  rw [e]
  blk_ext [iblk1, (idx1 t).2.1, row1]
/-- An entry of window 2's block is an entry of its array. -/
theorem iblk1_2_at (t : Fin cfg1.N) (k : Fin 8192) (l : Fin 256) :
    iblk1 V c 2 t (ix2 k l) = V c main_arg3 (ix2 k (⟨10240 + (col1 t l).val, by omega⟩ : Fin 47104)) := by
  blk_ext [iblk1, (idx1 t).2.2.1, col1]
/-- An entry of window 3's block is an entry of its array. -/
theorem iblk1_3_at (t : Fin cfg1.N) (k : Fin 8192) (l : Fin 256) :
    iblk1 V c 3 t (ix2 k l) = V c main_arg3 (ix2 k (⟨28672 + (col1 t l).val, by omega⟩ : Fin 47104)) := by
  blk_ext [iblk1, (idx1 t).2.2.2.1, col1]
/-- An entry of window 4's block is an entry of its array. -/
theorem iblk1_4_at (t : Fin cfg1.N) (r : Fin 1) (l : Fin 256) :
    iblk1 V c 4 t (ix2 r l) = V c main_v1 (ix2 (0 : Fin 1) (⟨10240 + (col1 t l).val, by omega⟩ : Fin 47104)) := by
  blk_ext [iblk1, (idx1 t).2.2.2.2.1, col1]
/-- An entry of window 5's block is an entry of its array. -/
theorem iblk1_5_at (t : Fin cfg1.N) (r : Fin 1) (l : Fin 256) :
    iblk1 V c 5 t (ix2 r l) = V c main_v1 (ix2 (0 : Fin 1) (⟨28672 + (col1 t l).val, by omega⟩ : Fin 47104)) := by
  blk_ext [iblk1, (idx1 t).2.2.2.2.2.1, col1]

/-- The hidden activation as a function of the region's input arrays. -/
def hV (r : Fin 8192) (n : Fin 18432) : EReal := hOf (V c main_v5_0) (V c main_v5_1) (V c main_arg3) (V c main_v1) r n

/-- What the body computes at a point is its block of the hidden activation. -/
theorem hblk (t : Fin cfg1.N) (r : Fin 1024) (k : Fin 256) :
    k1_pay2 (F := Ideal) (iblk1 V c 0 t) (View.ld (iblk1 V c 1 t) (Rect.unit (s := S1024x128) ![0, 0] S1024x1.size inb_S1024x128_S1024x1_0_0))
      (iblk1 V c 2 t) (iblk1 V c 4 t) (iblk1 V c 3 t) (iblk1 V c 5 t) (ix2 r k) = hV V c (row1 t r) (col1 t k) := by
  refine (k1_pay2_at _ _ _ _ _ _ r k).trans ?_
  rw [iblk1_1_at]
  simp only [iblk1_0_at, iblk1_2_at, iblk1_3_at, iblk1_4_at, iblk1_5_at]
  rfl

/-- The stored hidden block, at every point. -/
theorem out1_fst (t : Fin cfg1.N) (r : Fin 1024) (k : Fin 256) :
    (outsAt1 V c t.val t.isLt).1 (ix2 r k) = hV V c (row1 t r) (col1 t k) := by
  by_cases h0 : t.val % 72 = 0
  · rw [outsAt1_A V c t h0]; frame_out; exact hblk V c t r k
  · rw [outsAt1_B V c t h0]; frame_out; exact hblk V c t r k

/-- The hidden activation's array after the region. -/
theorem arr1_6 : (dat1 V c).arrAt 6 cfg1.N = fun i : S8192x18432.Idx => hV V c (i 0) (i 1) := by
  refine (dat1 V c).arrAt_eq_of_covers 6 _ (by decide +kernel) fun t hf y => ?_
  blk_simp
  rw [after1_6]
  obtain ⟨r, k, rfl⟩ : ∃ (r : Fin 1024) (k : Fin 256), y = ix2 r k := ⟨y 0, y 1, ValueIdx.eq_ix2 y⟩
  rw [show ((View.whole main_v6_0).slice (win1_6.rect t)).emb (ix2 r k) 0 = row1 t r from
      Fin.ext (by blk_simp [(idx1 t).2.2.2.2.2.2.1, row1]),
    show ((View.whole main_v6_0).slice (win1_6.rect t)).emb (ix2 r k) 1 = col1 t k from
      Fin.ext (by blk_simp [(idx1 t).2.2.2.2.2.2.1, col1])]
  exact out1_fst V c t r k

/-- The running maximum after a first point of a row of blocks. -/
theorem out1_snd_A (t : Fin cfg1.N) (h0 : t.val % 72 = 0) (r : Fin 1024) (l : Fin 128) :
    (outsAt1 V c t.val t.isLt).2 (ix2 r l) = max (0 : EReal) (Spec.amax fun k : Fin 256 => hV V c (row1 t r) (col1 t k)) := by
  rw [outsAt1_A V c t h0]; frame_out
  refine (k1_pay1_at _ _ r l).trans ?_
  rw [k1_pay3_at, k1_pay4_at]
  exact congrArg (max (0 : EReal)) (congrArg Spec.amax (funext fun k => hblk V c t r k))

/-- The running maximum after any other point takes the block's largest magnitude in. -/
theorem out1_snd_B (t : Fin cfg1.N) (h0 : ¬ t.val % 72 = 0) (r : Fin 1024) (l : Fin 128) :
    (outsAt1 V c t.val t.isLt).2 (ix2 r l)
      = max ((outsAt1 V c (t.val - 1) (Nat.lt_of_le_of_lt (Nat.sub_le _ _) t.isLt)).2 (ix2 r l) : EReal)
          (Spec.amax fun k : Fin 256 => hV V c (row1 t r) (col1 t k)) := by
  rw [outsAt1_B V c t h0]; frame_out
  refine (k1_pay1_at _ _ r l).trans ?_
  rw [k1_pay3_at]
  exact congrArg (max _) (congrArg Spec.amax (funext fun k => hblk V c t r k))

/-- A bound on one block's magnitudes, over the row's columns. -/
theorem blk_le (t : Fin cfg1.N) (r : Fin 1024) (z : EReal) :
    (Spec.amax fun k : Fin 256 => hV V c (row1 t r) (col1 t k)) ≤ z
      ↔ ∀ n : Fin 18432, t.val % 72 * 256 ≤ n.val → n.val < (t.val % 72 + 1) * 256 → mag (hV V c (row1 t r) n) ≤ z := by
  rw [amax_le]
  refine ⟨fun h n h1 h2 => ?_, fun h k => h _ (by show _ ≤ t.val % 72 * 256 + k.val; omega) (by show t.val % 72 * 256 + k.val < _; omega)⟩
  have := h ⟨n.val - t.val % 72 * 256, by omega⟩
  rwa [show col1 t ⟨n.val - t.val % 72 * 256, by omega⟩ = n from Fin.ext (by show t.val % 72 * 256 + (n.val - t.val % 72 * 256) = n.val; omega)] at this

/-- What bounds the running maximum: zero, and every magnitude of the row's columns so far. -/
theorem run_le (r : Fin 1024) (l : Fin 128) (z : EReal) : ∀ (n : ℕ) (hn : n < cfg1.N),
    (outsAt1 V c n hn).2 (ix2 r l) ≤ z
      ↔ 0 ≤ z ∧ ∀ j : Fin 18432, j.val < (n % 72 + 1) * 256 → mag (hV V c (row1 ⟨n, hn⟩ r) j) ≤ z := by
  intro n
  induction n with
  | zero =>
    intro hn
    rw [out1_snd_A V c ⟨0, hn⟩ rfl r l, max_le_iff, blk_le]
    exact and_congr_right fun _ => forall_congr' fun j => ⟨fun h h2 => h (by simp) h2, fun h _ h2 => h h2⟩
  | succ n ih =>
    intro hn
    by_cases h0 : (n + 1) % 72 = 0
    · rw [out1_snd_A V c ⟨n + 1, hn⟩ h0 r l, max_le_iff, blk_le]
      refine and_congr_right fun _ => forall_congr' fun j => ⟨fun h h2 => h ?_ h2, fun h _ h2 => h h2⟩
      show (n + 1) % 72 * 256 ≤ j.val
      omega
    · have hp := Nat.lt_of_succ_lt hn
      have e : row1 ⟨n + 1, hn⟩ r = row1 ⟨n, hp⟩ r := Fin.ext (by show (n + 1) / 72 * 1024 + r.val = n / 72 * 1024 + r.val; omega)
      rw [out1_snd_B V c ⟨n + 1, hn⟩ h0 r l, max_le_iff, blk_le]
      refine (and_congr_left fun _ => ih hp).trans ?_
      rw [e]
      refine ⟨fun ⟨⟨h1, h2⟩, h3⟩ => ⟨h1, fun j hj => ?_⟩, fun ⟨h1, h2⟩ => ⟨⟨h1, fun j hj => h2 j (by omega)⟩, fun j _ hj => h2 j hj⟩⟩
      by_cases hj' : j.val < (n % 72 + 1) * 256
      · exact h2 j hj'
      · exact h3 j (by show (n + 1) % 72 * 256 ≤ j.val; omega) hj

/-- At the last point of a row of blocks the running maximum is the row's largest magnitude. -/
theorem out1_snd (t : Fin cfg1.N) (h : t.val % 72 = 71) (r : Fin 1024) (l : Fin 128) :
    (outsAt1 V c t.val t.isLt).2 (ix2 r l) = Spec.amax (hV V c (row1 t r)) := by
  refine eq_of_forall_ge_iff fun z => ?_
  rw [run_le, amax_le]
  refine ⟨fun ⟨_, h2⟩ j => h2 j (by omega), fun h2 => ⟨(mag_nonneg _).trans (h2 0), fun j _ => h2 j⟩⟩

/-- The array of the rows' largest magnitudes after the region: a row's in every lane. -/
theorem arr1_7 : (dat1 V c).arrAt 7 cfg1.N = fun i : S8192x128.Idx => Spec.amax (hV V c (i 0)) := by
  refine (dat1 V c).arrAt_eq_of_covers 7 _ (by decide +kernel) fun t hf y => ?_
  blk_simp
  rw [after1_7]
  obtain ⟨r, k, rfl⟩ : ∃ (r : Fin 1024) (k : Fin 128), y = ix2 r k := ⟨y 0, y 1, ValueIdx.eq_ix2 y⟩
  rw [show ((View.whole main_v6_1).slice (win1_7.rect t)).emb (ix2 r k) 0 = row1 t r from
      Fin.ext (by blk_simp [(idx1 t).2.2.2.2.2.2.2, row1])]
  exact out1_snd V c t (fl1 t hf) r k

end Cert.KernelIdeal.Val

end
-- ==== Proof.Value.KReg2.lean ====
module

public import proofs.«01_k».proof.Proof.KernelIdeal.Reg2
public import proofs.«01_k».proof.Proof.Value.KPay1
public import proofs.«01_k».proof.Proof.Value.Forms
public import Idealize.ShloMosaic.Lib.Pipeline.ValueKit

/-! Region 2's result array, entry by entry: the attention projections. -/

@[expose] public section

set_option maxRecDepth 16384

noncomputable section

namespace Cert.KernelIdeal.Val

open Idealize.ShloMosaic Cert.KernelIdeal Cert.KernelIdeal.Gen Cert.KernelIdeal.Fr
open Idealize.ShloMosaic.TcCoe

variable (V : (c : Dev nD) → (b : Ref sig .tc) → Buf (Elt Ideal) ((c : Thread nD τ).loc b)) (c : Dev nD)

/-- The block index of each window at a grid point. -/
theorem idx2 : ∀ t : Fin cfg2.N, win2_0.index t = ![t.val / 20, 0] ∧ win2_1.index t = ![t.val / 20, 0] ∧ win2_2.index t = ![0, t.val % 20]
    ∧ win2_3.index t = ![0, t.val % 20] ∧ win2_4.index t = ![t.val / 20, t.val % 20] := by decide +kernel

/-- The number of grid points. -/
theorem lt2 (t : Fin cfg2.N) : t.val < 160 := t.isLt

/-- An entry of window 0's block is an entry of its array. -/
theorem iblk2_0_at (t : Fin cfg2.N) (r : Fin 1024) (k : Fin 8192) :
    iblk2 V c 0 t (ix2 r k) = V c main_v5_0 (ix2 (⟨t.val / 20 * 1024 + r.val, by have := lt2 t; omega⟩ : Fin 8192) k) := by
  blk_ext [iblk2, (idx2 t).1]
/-- An entry of window 1's block is an entry of its array. -/
theorem iblk2_1_at (t : Fin cfg2.N) (r : Fin 1024) :
    View.ld (iblk2 V c 1 t) r2_2 (ix2 r (0 : Fin 1)) = V c main_v5_1 (ix2 (⟨t.val / 20 * 1024 + r.val, by have := lt2 t; omega⟩ : Fin 8192) (0 : Fin 128)) := by
  have e : View.ld (iblk2 V c 1 t) r2_2 (ix2 r (0 : Fin 1)) = iblk2 V c 1 t (ix2 r (0 : Fin 128)) := by
    refine congrArg (iblk2 V c 1 t) (funext fun a => Fin.ext ?_)
    match a with
    | ⟨0, _⟩ => show 0 + 1 * r.val = r.val; omega
    | ⟨1, _⟩ => rfl
  rw [e]
  blk_ext [iblk2, (idx2 t).2.1]
/-- An entry of window 2's block is an entry of its array. -/
theorem iblk2_2_at (t : Fin cfg2.N) (k : Fin 8192) (l : Fin 512) :
    iblk2 V c 2 t (ix2 k l) = V c main_arg3 (ix2 k (⟨t.val % 20 * 512 + l.val, by omega⟩ : Fin 47104)) := by
  blk_ext [iblk2, (idx2 t).2.2.1]
/-- An entry of window 3's block is an entry of its array. -/
theorem iblk2_3_at (t : Fin cfg2.N) (r : Fin 1) (l : Fin 512) :
    iblk2 V c 3 t (ix2 r l) = V c main_v1 (ix2 (0 : Fin 1) (⟨t.val % 20 * 512 + l.val, by omega⟩ : Fin 47104)) := by
  blk_ext [iblk2, (idx2 t).2.2.2.1]

/-- The projections' array after the region. -/
theorem arr2_4 : (dat2 V c).arrAt 4 cfg2.N
    = fun i : S8192x10240.Idx => zOf (V c main_v5_0) (V c main_v5_1) (V c main_arg3) (V c main_v1) (i 0)
        (⟨(i 1).val, by have := ValueIdx.idx2_lt1 i; omega⟩ : Fin 47104) := by
  refine (dat2 V c).arrAt_eq_of_covers 4 _ (by decide +kernel) fun t hf y => ?_
  blk_simp
  rw [after2_4]
  unfold out2_4
  frame_out
  obtain ⟨r, k, rfl⟩ : ∃ (r : Fin 1024) (k : Fin 512), y = ix2 r k := ⟨y 0, y 1, ValueIdx.eq_ix2 y⟩
  rw [show ((View.whole main_v7).slice (win2_4.rect t)).emb (ix2 r k) 0 = (⟨t.val / 20 * 1024 + r.val, by have := lt2 t; omega⟩ : Fin 8192) from
      Fin.ext (by blk_simp [(idx2 t).2.2.2.2])]
  refine (k2_pay1_at _ _ _ _ r k).trans ?_
  simp only [iblk2_0_at, iblk2_1_at, iblk2_2_at, iblk2_3_at]
  refine congrArg (zOf (V c main_v5_0) (V c main_v5_1) (V c main_arg3) (V c main_v1) _)
    (Fin.ext ?_ : (⟨t.val % 20 * 512 + k.val, by omega⟩ : Fin 47104) = _)
  show t.val % 20 * 512 + k.val = win2_4.index t 1 * 512 + k.val
  rw [(idx2 t).2.2.2.2]
  rfl

end Cert.KernelIdeal.Val

end
-- ==== Proof.Value.KReg3.lean ====
module

public import proofs.«01_k».proof.Proof.KernelIdeal.Reg3
public import proofs.«01_k».proof.Proof.Value.KPay0
public import Idealize.ShloMosaic.Lib.Pipeline.ValueKit

/-! Region 3's result arrays, entry by entry: the codes and the scales of the hidden activation. -/

@[expose] public section

set_option maxRecDepth 16384

noncomputable section

namespace Cert.KernelIdeal.Val

open Idealize.ShloMosaic Cert.KernelIdeal Cert.KernelIdeal.Gen Cert.KernelIdeal.Fr
open Idealize.ShloMosaic.TcCoe

variable (V : (c : Dev nD) → (b : Ref sig .tc) → Buf (Elt Ideal) ((c : Thread nD τ).loc b)) (c : Dev nD)

/-- The block index of each window at a grid point. -/
theorem idx3 : ∀ t : Fin cfg3.N, win3_0.index t = ![t.val, 0] ∧ win3_1.index t = ![t.val, 0]
    ∧ win3_2.index t = ![t.val, 0] ∧ win3_3.index t = ![t.val, 0] := by decide +kernel

/-- The number of grid points. -/
theorem lt3 (t : Fin cfg3.N) : t.val < 64 := t.isLt

/-- An entry of window 0's block is an entry of its array. -/
theorem iblk3_0_at (t : Fin cfg3.N) (r : Fin 128) (k : Fin 18432) :
    iblk3 V c 0 t (ix2 r k) = V c main_v6_0 (ix2 (⟨t.val * 128 + r.val, by have := lt3 t; omega⟩ : Fin 8192) k) := by
  blk_ext [iblk3, (idx3 t).1]
/-- An entry of window 1's block is an entry of its array. -/
theorem iblk3_1_at (t : Fin cfg3.N) (r : Fin 128) :
    View.ld (iblk3 V c 1 t) r3_1 (ix2 r (0 : Fin 1)) = V c main_v6_1 (ix2 (⟨t.val * 128 + r.val, by have := lt3 t; omega⟩ : Fin 8192) (0 : Fin 128)) := by
  have e : View.ld (iblk3 V c 1 t) r3_1 (ix2 r (0 : Fin 1)) = iblk3 V c 1 t (ix2 r (0 : Fin 128)) := by
    refine congrArg (iblk3 V c 1 t) (funext fun a => Fin.ext ?_)
    match a with
    | ⟨0, _⟩ => show 0 + 1 * r.val = r.val; omega
    | ⟨1, _⟩ => rfl
  rw [e]
  blk_ext [iblk3, (idx3 t).2.1]

/-- The hidden codes' array after the region, from the hidden activation and its rows' largest magnitudes. -/
theorem arr3_2 : (dat3 V c).arrAt 2 cfg3.N
    = fun i : S8192x18432.Idx => Spec.code (V c main_v6_0 (ix2 (i 0) (i 1))) (Spec.scale (V c main_v6_1 (ix2 (i 0) (0 : Fin 128)))) := by
  refine (dat3 V c).arrAt_eq_of_covers 2 _ (by decide +kernel) fun t hf y => ?_
  blk_simp
  rw [after3_2]
  unfold out3_2
  frame_out
  obtain ⟨r, k, rfl⟩ : ∃ (r : Fin 128) (k : Fin 18432), y = ix2 r k := ⟨y 0, y 1, ValueIdx.eq_ix2 y⟩
  rw [show ((View.whole main_v8_0).slice (win3_2.rect t)).emb (ix2 r k) 0 = (⟨t.val * 128 + r.val, by have := lt3 t; omega⟩ : Fin 8192) from
      Fin.ext (by blk_simp [(idx3 t).2.2.1]),
    show ((View.whole main_v8_0).slice (win3_2.rect t)).emb (ix2 r k) 1 = k from Fin.ext (by blk_simp [(idx3 t).2.2.1])]
  refine (k3_pay2_at _ _ r k).trans ?_
  simp only [iblk3_0_at, iblk3_1_at]

/-- The hidden scales' array after the region: a row's scale in every lane. -/
theorem arr3_3 : (dat3 V c).arrAt 3 cfg3.N
    = fun i : S8192x128.Idx => Spec.scale (V c main_v6_1 (ix2 (i 0) (0 : Fin 128))) := by
  refine (dat3 V c).arrAt_eq_of_covers 3 _ (by decide +kernel) fun t hf y => ?_
  blk_simp
  rw [after3_3]
  unfold out3_3
  frame_out
  obtain ⟨r, k, rfl⟩ : ∃ (r : Fin 128) (k : Fin 128), y = ix2 r k := ⟨y 0, y 1, ValueIdx.eq_ix2 y⟩
  rw [show ((View.whole main_v8_1).slice (win3_3.rect t)).emb (ix2 r k) 0 = (⟨t.val * 128 + r.val, by have := lt3 t; omega⟩ : Fin 8192) from
      Fin.ext (by blk_simp [(idx3 t).2.2.2])]
  refine (k3_pay3_at _ r k).trans ?_
  simp only [iblk3_1_at]

end Cert.KernelIdeal.Val

end
-- ==== Proof.Value.KReg4.lean ====
module

public import proofs.«01_k».proof.Proof.KernelIdeal.Reg4Dat
public import proofs.«01_k».proof.Proof.Value.KPay1
public import proofs.«01_k».proof.Proof.Value.Forms
public import Idealize.ShloMosaic.Lib.Pipeline.ValueKit
public import Idealize.ShloMosaic.Lib.Pipeline.ReadBack

/-! Region 4's result array, entry by entry: the input plus the second product, dequantised. -/

@[expose] public section

set_option maxRecDepth 16384

noncomputable section

namespace Cert.KernelIdeal.Val

open Idealize.ShloMosaic Cert.KernelIdeal Cert.KernelIdeal.Gen Cert.KernelIdeal.Fr
open Idealize.ShloMosaic.TcCoe

variable (V : (c : Dev nD) → (b : Ref sig .tc) → Buf (Elt Ideal) ((c : Thread nD τ).loc b)) (c : Dev nD)

/-- The block index of each window at a grid point. -/
theorem idx4 : ∀ t : Fin cfg4.N, win4_0.index t = ![t.val / 32, t.val % 4] ∧ win4_1.index t = ![t.val / 32, 0]
    ∧ win4_2.index t = ![t.val % 4, t.val / 4 % 8] ∧ win4_3.index t = ![0, t.val / 4 % 8] ∧ win4_4.index t = ![t.val / 32, t.val / 4 % 8]
    ∧ win4_5.index t = ![t.val / 32, t.val / 4 % 8] := by decide +kernel

/-- The result window is written back only at the last point of a run of points with one block. -/
theorem fl4 : ∀ t : Fin cfg4.N, (cfg4.win 5).flush t = true → t.val % 4 = 3 := by decide +kernel

/-- The number of grid points. -/
theorem lt4 (t : Fin cfg4.N) : t.val < 256 := t.isLt

/-- The row of the whole array that row `r` of point `t`'s block is. -/
def row4 (t : Fin cfg4.N) (r : Fin 1024) : Fin 8192 := ⟨t.val / 32 * 1024 + r.val, by have := lt4 t; omega⟩
/-- The column of the whole array that column `k` of point `t`'s block is. -/
def col4 (t : Fin cfg4.N) (k : Fin 1024) : Fin 8192 := ⟨t.val / 4 % 8 * 1024 + k.val, by omega⟩
/-- The summand of the whole product that summand `k` of point `t`'s block is. -/
def mid4 (t : Fin cfg4.N) (k : Fin 4608) : Fin 18432 := ⟨t.val % 4 * 4608 + k.val, by omega⟩

/-- An entry of window 0's block is an entry of its array. -/
theorem iblk4_0_at (t : Fin cfg4.N) (r : Fin 1024) (k : Fin 4608) :
    iblk4 V c 0 t (ix2 r k) = V c main_v8_0 (ix2 (row4 t r) (mid4 t k)) := by
  blk_ext [iblk4, (idx4 t).1, row4, mid4]
/-- An entry of window 1's block is an entry of its array. -/
theorem iblk4_1_at (t : Fin cfg4.N) (r : Fin 1024) :
    View.ld (iblk4 V c 1 t) (Rect.unit (s := S1024x128) ![0, 0] S1024x1.size inb_S1024x128_S1024x1_0_0) (ix2 r (0 : Fin 1)) = V c main_v8_1 (ix2 (row4 t r) (0 : Fin 128)) := by
  have e : View.ld (iblk4 V c 1 t) (Rect.unit (s := S1024x128) ![0, 0] S1024x1.size inb_S1024x128_S1024x1_0_0) (ix2 r (0 : Fin 1)) = iblk4 V c 1 t (ix2 r (0 : Fin 128)) := by
    refine congrArg (iblk4 V c 1 t) (funext fun a => Fin.ext ?_)
    match a with
    | ⟨0, _⟩ => show 0 + 1 * r.val = r.val; omega
    | ⟨1, _⟩ => rfl
  rw [e]
  blk_ext [iblk4, (idx4 t).2.1, row4]
/-- An entry of window 2's block is an entry of its array. -/
theorem iblk4_2_at (t : Fin cfg4.N) (k : Fin 4608) (l : Fin 1024) :
    iblk4 V c 2 t (ix2 k l) = V c main_arg5 (ix2 (mid4 t k) (col4 t l)) := by
  blk_ext [iblk4, (idx4 t).2.2.1, mid4, col4]
/-- An entry of window 3's block is an entry of its array. -/
theorem iblk4_3_at (t : Fin cfg4.N) (r : Fin 1) (l : Fin 1024) :
    iblk4 V c 3 t (ix2 r l) = V c main_v2 (ix2 (0 : Fin 1) (col4 t l)) := by
  blk_ext [iblk4, (idx4 t).2.2.2.1, col4]
/-- An entry of window 4's block is an entry of its array. -/
theorem iblk4_4_at (t : Fin cfg4.N) (r : Fin 1024) (l : Fin 1024) :
    iblk4 V c 4 t (ix2 r l) = V c main_v0 (ix2 (row4 t r) (col4 t l)) := by
  blk_ext [iblk4, (idx4 t).2.2.2.2.1, row4, col4]

/-- One point's part of the second product. -/
def part4 (t : Fin cfg4.N) (j : S1024x1024.Idx) : EReal :=
  Spec.dot (fun x : Fin 4608 => V c main_v8_0 (ix2 (row4 t (j 0)) (mid4 t x))) (fun x => V c main_arg5 (ix2 (mid4 t x) (col4 t (j 1))))

/-- The accumulating payload adds the point's part. -/
theorem pay2_part (v : FVec Ideal S1024x1024 .f32) (t : Fin cfg4.N) (j : S1024x1024.Idx) :
    k4_pay2 (F := Ideal) v (iblk4 V c 0 t) (iblk4 V c 2 t) j = (v j + part4 V c t j : EReal) := by
  obtain ⟨r, k, rfl⟩ : ∃ (r : Fin 1024) (k : Fin 1024), j = ix2 r k := ⟨j 0, j 1, ValueIdx.eq_ix2 j⟩
  refine (k4_pay2_at _ _ _ r k).trans ?_
  simp only [iblk4_0_at, iblk4_2_at]
  rfl

/-- The scratch buffer after a run's first point: that point's block product. -/
theorem acc_A (t : Fin cfg4.N) (h0 : t.val % 4 = 0) (j : S1024x1024.Idx) :
    (outsAt4 V c t.val t.isLt).2 j = (0 + part4 V c t j : EReal) := by
  rw [outsAt4_A V c t h0 (by omega)]; frame_out
  refine (pay2_part V c _ t j).trans ?_
  rw [show k4_pay1 (F := Ideal) j = (0 : EReal) from (congrArg _ (ValueIdx.eq_ix2 j)).trans (k4_pay1_at (j 0) (j 1))]

/-- The scratch buffer after a later point of a run: what it held plus that point's block product. -/
theorem acc_BC (t : Fin cfg4.N) (h0 : ¬ t.val % 4 = 0) (j : S1024x1024.Idx) :
    (outsAt4 V c t.val t.isLt).2 j
      = ((outsAt4 V c (t.val - 1) (Nat.lt_of_le_of_lt (Nat.sub_le _ _) t.isLt)).2 j + part4 V c t j : EReal) := by
  by_cases h1 : t.val % 4 = 3
  · rw [outsAt4_C V c t h0 h1]; frame_out
    simp only [read_unread_whole]
    exact pay2_part V c _ t j
  · rw [outsAt4_B V c t h0 h1]; frame_out
    simp only [read_unread_whole]
    exact pay2_part V c _ t j

/-- The accumulator at the last point of a run of four is the whole sum. -/
theorem acc_last (t : Fin cfg4.N) (h : t.val % 4 = 3) (r k : Fin 1024) :
    (outsAt4 V c t.val t.isLt).2 (ix2 r k)
      = Spec.dot (fun x : Fin 18432 => V c main_v8_0 (ix2 (row4 t r) x)) (fun x => V c main_arg5 (ix2 x (col4 t k))) := by
  rw [Pipeline.eq_sum_fin_of_reset_step_apply_of_flush (M := EReal) (fun n h => (outsAt4 V c n h).2) 4 (fun _ => 0) (part4 V c)
    (acc_A V c) (acc_BC V c) t h (ix2 r k), zero_add]
  unfold Spec.dot
  refine Fin.sum_mul_add_congr (S := 4) (n := 4608) (L := 18432)
    (f := fun x : Fin 18432 => Spec.num (V c main_v8_0 (ix2 (row4 t r) x)) * Spec.num (V c main_arg5 (ix2 x (col4 t k)))) (F := fun s x => Spec.num (V c main_v8_0 (ix2 (row4 ⟨4 * (t.val / 4) + s.val, by have := lt4 t; have := s.isLt; show _ < 256; omega⟩ r) (mid4 ⟨4 * (t.val / 4) + s.val, by have := lt4 t; have := s.isLt; show _ < 256; omega⟩ x)))
    * Spec.num (V c main_arg5 (ix2 (mid4 ⟨4 * (t.val / 4) + s.val, by have := lt4 t; have := s.isLt; show _ < 256; omega⟩ x) (col4 ⟨4 * (t.val / 4) + s.val, by have := lt4 t; have := s.isLt; show _ < 256; omega⟩ k)))) fun s x hl => ?_
  have := lt4 t
  have e1 : row4 ⟨4 * (t.val / 4) + s.val, by have := s.isLt; show _ < 256; omega⟩ r = row4 t r :=
    Fin.ext (by show (4 * (t.val / 4) + s.val) / 32 * 1024 + r.val = t.val / 32 * 1024 + r.val; omega)
  have e2 : col4 ⟨4 * (t.val / 4) + s.val, by have := s.isLt; show _ < 256; omega⟩ k = col4 t k :=
    Fin.ext (by show (4 * (t.val / 4) + s.val) / 4 % 8 * 1024 + k.val = t.val / 4 % 8 * 1024 + k.val; omega)
  have e3 : mid4 ⟨4 * (t.val / 4) + s.val, by have := s.isLt; show _ < 256; omega⟩ x = ⟨s.val * 4608 + x.val, hl⟩ :=
    Fin.ext (by show (4 * (t.val / 4) + s.val) % 4 * 4608 + x.val = s.val * 4608 + x.val; omega)
  show Spec.num (V c main_v8_0 (ix2 (row4 ⟨4 * (t.val / 4) + s.val, _⟩ r) (mid4 ⟨4 * (t.val / 4) + s.val, _⟩ x)))
    * Spec.num (V c main_arg5 (ix2 (mid4 ⟨4 * (t.val / 4) + s.val, _⟩ x) (col4 ⟨4 * (t.val / 4) + s.val, _⟩ k))) = _
  rw [e1, e2, e3]

/-- The output's array after the region. -/
theorem arr4_5 : (dat4 V c).arrAt 5 cfg4.N = fun i : S8192x8192.Idx => yOf (V c main_v0) (V c main_v8_0) (V c main_v8_1) (V c main_arg5) (V c main_v2) (i 0) (i 1) := by
  refine (dat4 V c).arrAt_eq_of_covers 5 _ (by decide +kernel) fun t hf y => ?_
  blk_simp
  rw [after4_5]
  have h := fl4 t hf
  have h0 : ¬ t.val % 4 = 0 := by omega
  obtain ⟨r, k, rfl⟩ : ∃ (r : Fin 1024) (k : Fin 1024), y = ix2 r k := ⟨y 0, y 1, ValueIdx.eq_ix2 y⟩
  rw [show ((View.whole main_v9).slice (win4_5.rect t)).emb (ix2 r k) 0 = row4 t r from
      Fin.ext (by blk_simp [(idx4 t).2.2.2.2.2, row4]),
    show ((View.whole main_v9).slice (win4_5.rect t)).emb (ix2 r k) 1 = col4 t k from
      Fin.ext (by blk_simp [(idx4 t).2.2.2.2.2, col4])]
  rw [outsAt4_C V c t h0 h]; frame_out
  simp only [read_unread_whole]
  refine (k4_pay3_at _ _ _ _ r k).trans ?_
  rw [pay2_part, ← acc_BC V c t h0, acc_last V c t h]
  rw [iblk4_1_at]
  simp only [iblk4_3_at, iblk4_4_at]
  rfl

end Cert.KernelIdeal.Val

end
-- ==== Proof.Value.KRun.lean ====
module

public import proofs.«01_k».proof.Proof.KernelIdeal.Bounds
public import proofs.«01_k».proof.Proof.Value.KReg0
public import proofs.«01_k».proof.Proof.Value.KReg1
public import proofs.«01_k».proof.Proof.Value.KReg2
public import proofs.«01_k».proof.Proof.Value.KReg3
public import proofs.«01_k».proof.Proof.Value.KReg4

/-! The kernel's five regions in sequence: what each result array holds at the last region's exit, as the layer's functions of
   the arrays that the first region finds. -/

@[expose] public section

set_option maxRecDepth 16384

noncomputable section

namespace Cert.KernelIdeal.Val

open Idealize.ShloMosaic Cert.KernelIdeal Cert.KernelIdeal.Gen Cert.KernelIdeal.Fr
open Idealize.ShloMosaic.TcCoe

variable (m : (ℓ : Loc nD τ sig) → Buf (Elt Ideal) ℓ) (ρ : Dev nD → PrngReg) (c : Dev nD)

/-! ### The operands, unchanged up to the region that reads them -/

/-- `main_arg3` is unchanged up to boundary 2. -/
theorem V2_arg3 : V2 m ρ c main_arg3 = V1 m ρ c main_arg3 := W2_of m ρ c main_arg3 (by decide +kernel)
/-- `main_v1` is unchanged up to boundary 2. -/
theorem V2_v1 : V2 m ρ c main_v1 = V1 m ρ c main_v1 := W2_of m ρ c main_v1 (by decide +kernel)
/-- `main_arg3` is unchanged up to boundary 3. -/
theorem V3_arg3 : V3 m ρ c main_arg3 = V1 m ρ c main_arg3 := (W3_of m ρ c main_arg3 (by decide +kernel)).trans (V2_arg3 m ρ c)
/-- `main_v1` is unchanged up to boundary 3. -/
theorem V3_v1 : V3 m ρ c main_v1 = V1 m ρ c main_v1 := (W3_of m ρ c main_v1 (by decide +kernel)).trans (V2_v1 m ρ c)
/-- `main_v0` is unchanged up to boundary 5. -/
theorem V5_v0 : V5 m ρ c main_v0 = V1 m ρ c main_v0 :=
  (W5_of m ρ c main_v0 (by decide +kernel)).trans ((W4_of m ρ c main_v0 (by decide +kernel)).trans
    ((W3_of m ρ c main_v0 (by decide +kernel)).trans (W2_of m ρ c main_v0 (by decide +kernel))))
/-- `main_v2` is unchanged up to boundary 5. -/
theorem V5_v2 : V5 m ρ c main_v2 = V1 m ρ c main_v2 :=
  (W5_of m ρ c main_v2 (by decide +kernel)).trans ((W4_of m ρ c main_v2 (by decide +kernel)).trans
    ((W3_of m ρ c main_v2 (by decide +kernel)).trans (W2_of m ρ c main_v2 (by decide +kernel))))
/-- `main_arg5` is unchanged up to boundary 5. -/
theorem V5_arg5 : V5 m ρ c main_arg5 = V1 m ρ c main_arg5 :=
  (W5_of m ρ c main_arg5 (by decide +kernel)).trans ((W4_of m ρ c main_arg5 (by decide +kernel)).trans
    ((W3_of m ρ c main_arg5 (by decide +kernel)).trans (W2_of m ρ c main_arg5 (by decide +kernel))))

/-! ### The result arrays at the exit of the region that writes them -/

/-- The input's codes. -/
theorem V2_v5_0 : V2 m ρ c main_v5_0 = fun i : S8192x8192.Idx => Spec.xc (fun r k => V1 m ρ c main_v0 (ix2 r k)) (fun k => V1 m ρ c main_v3 (ix2 (0 : Fin 1) k)) (fun k => V1 m ρ c main_v4 (ix2 (0 : Fin 1) k)) (i 0) (i 1) := by
  exact (W2_arr m ρ c 3).trans (arr0_3 (V1 m ρ) c)

/-- The input's scales, in every lane. -/
theorem V2_v5_1 : V2 m ρ c main_v5_1 = fun i : S8192x128.Idx => Spec.xs (fun r k => V1 m ρ c main_v0 (ix2 r k)) (fun k => V1 m ρ c main_v3 (ix2 (0 : Fin 1) k)) (fun k => V1 m ρ c main_v4 (ix2 (0 : Fin 1) k)) (i 0) := by
  exact (W2_arr m ρ c 4).trans (arr0_4 (V1 m ρ) c)

/-- The first product dequantised, as region 1 computes it. -/
theorem zOf_V2 : ∀ (r : Fin 8192) (n : Fin 47104), zOf (V2 m ρ c main_v5_0) (V2 m ρ c main_v5_1) (V2 m ρ c main_arg3) (V2 m ρ c main_v1) r n
    = Spec.z (fun r k => V1 m ρ c main_v0 (ix2 r k)) (fun k => V1 m ρ c main_v3 (ix2 (0 : Fin 1) k)) (fun k => V1 m ρ c main_v4 (ix2 (0 : Fin 1) k)) (fun k n => V1 m ρ c main_arg3 (ix2 k n)) (fun n => V1 m ρ c main_v1 (ix2 (0 : Fin 1) n)) r n := by
  intro r n
  rw [V2_v5_0, V2_v5_1, V2_arg3, V2_v1]
  rfl

/-- The hidden activation. -/
theorem hV_V2 : ∀ r : Fin 8192, hV (V2 m ρ) c r = Spec.h (fun r k => V1 m ρ c main_v0 (ix2 r k)) (fun k => V1 m ρ c main_v3 (ix2 (0 : Fin 1) k)) (fun k => V1 m ρ c main_v4 (ix2 (0 : Fin 1) k)) (fun k n => V1 m ρ c main_arg3 (ix2 k n)) (fun n => V1 m ρ c main_v1 (ix2 (0 : Fin 1) n)) r := by
  intro r
  funext n
  unfold hV hOf Spec.h
  rw [zOf_V2, zOf_V2]

/-- The hidden activation's array. -/
theorem V3_v6_0 : V3 m ρ c main_v6_0 = fun i : S8192x18432.Idx => Spec.h (fun r k => V1 m ρ c main_v0 (ix2 r k)) (fun k => V1 m ρ c main_v3 (ix2 (0 : Fin 1) k)) (fun k => V1 m ρ c main_v4 (ix2 (0 : Fin 1) k)) (fun k n => V1 m ρ c main_arg3 (ix2 k n)) (fun n => V1 m ρ c main_v1 (ix2 (0 : Fin 1) n)) (i 0) (i 1) := by
  refine (W3_arr m ρ c 6).trans ((arr1_6 (V2 m ρ) c).trans ?_)
  exact funext fun i => congrFun (hV_V2 m ρ c (i 0)) (i 1)

/-- The hidden rows' largest magnitudes, in every lane. -/
theorem V3_v6_1 : V3 m ρ c main_v6_1 = fun i : S8192x128.Idx => Spec.amax (Spec.h (fun r k => V1 m ρ c main_v0 (ix2 r k)) (fun k => V1 m ρ c main_v3 (ix2 (0 : Fin 1) k)) (fun k => V1 m ρ c main_v4 (ix2 (0 : Fin 1) k)) (fun k n => V1 m ρ c main_arg3 (ix2 k n)) (fun n => V1 m ρ c main_v1 (ix2 (0 : Fin 1) n)) (i 0)) := by
  refine (W3_arr m ρ c 7).trans ((arr1_7 (V2 m ρ) c).trans ?_)
  exact funext fun i => congrArg Spec.amax (hV_V2 m ρ c (i 0))

/-- The first product dequantised, as region 2 computes it. -/
theorem zOf_V3 : ∀ (r : Fin 8192) (n : Fin 47104), zOf (V3 m ρ c main_v5_0) (V3 m ρ c main_v5_1) (V3 m ρ c main_arg3) (V3 m ρ c main_v1) r n
    = Spec.z (fun r k => V1 m ρ c main_v0 (ix2 r k)) (fun k => V1 m ρ c main_v3 (ix2 (0 : Fin 1) k)) (fun k => V1 m ρ c main_v4 (ix2 (0 : Fin 1) k)) (fun k n => V1 m ρ c main_arg3 (ix2 k n)) (fun n => V1 m ρ c main_v1 (ix2 (0 : Fin 1) n)) r n := by
  intro r n
  rw [show V3 m ρ c main_v5_0 = V2 m ρ c main_v5_0 from W3_of m ρ c main_v5_0 (by decide +kernel),
    show V3 m ρ c main_v5_1 = V2 m ρ c main_v5_1 from W3_of m ρ c main_v5_1 (by decide +kernel), V3_arg3, V3_v1, ← V2_arg3, ← V2_v1]
  rw [zOf_V2, V2_arg3, V2_v1]

/-- The attention projections' array. -/
theorem V4_v7 : V4 m ρ c main_v7 = fun i : S8192x10240.Idx => Spec.z (fun r k => V1 m ρ c main_v0 (ix2 r k)) (fun k => V1 m ρ c main_v3 (ix2 (0 : Fin 1) k)) (fun k => V1 m ρ c main_v4 (ix2 (0 : Fin 1) k)) (fun k n => V1 m ρ c main_arg3 (ix2 k n)) (fun n => V1 m ρ c main_v1 (ix2 (0 : Fin 1) n)) (i 0)
    (⟨(i 1).val, by have := ValueIdx.idx2_lt1 i; omega⟩ : Fin 47104) := by
  refine (W4_arr m ρ c 4).trans ((arr2_4 (V3 m ρ) c).trans ?_)
  exact funext fun i => zOf_V3 m ρ c (i 0) _

/-- Region 2 leaves the hidden activation as it is. -/
theorem V4_v6_0 : V4 m ρ c main_v6_0 = V3 m ρ c main_v6_0 := by
  exact W4_of m ρ c main_v6_0 (by decide +kernel)

/-- Region 2 leaves the rows' largest magnitudes as they are. -/
theorem V4_v6_1 : V4 m ρ c main_v6_1 = V3 m ρ c main_v6_1 := by
  exact W4_of m ρ c main_v6_1 (by decide +kernel)

/-- The hidden rows' scales, in every lane. -/
theorem V5_v8_1 : V5 m ρ c main_v8_1 = fun i : S8192x128.Idx => Spec.hs (fun r k => V1 m ρ c main_v0 (ix2 r k)) (fun k => V1 m ρ c main_v3 (ix2 (0 : Fin 1) k)) (fun k => V1 m ρ c main_v4 (ix2 (0 : Fin 1) k)) (fun k n => V1 m ρ c main_arg3 (ix2 k n)) (fun n => V1 m ρ c main_v1 (ix2 (0 : Fin 1) n)) (i 0) := by
  refine (W5_arr m ρ c 3).trans ((arr3_3 (V4 m ρ) c).trans ?_)
  rw [V4_v6_1, V3_v6_1]
  rfl

/-- The hidden activation's codes. -/
theorem V5_v8_0 : V5 m ρ c main_v8_0 = fun i : S8192x18432.Idx => Spec.hc (fun r k => V1 m ρ c main_v0 (ix2 r k)) (fun k => V1 m ρ c main_v3 (ix2 (0 : Fin 1) k)) (fun k => V1 m ρ c main_v4 (ix2 (0 : Fin 1) k)) (fun k n => V1 m ρ c main_arg3 (ix2 k n)) (fun n => V1 m ρ c main_v1 (ix2 (0 : Fin 1) n)) (i 0) (i 1) := by
  refine (W5_arr m ρ c 2).trans ((arr3_2 (V4 m ρ) c).trans ?_)
  rw [V4_v6_0, V4_v6_1, V3_v6_0, V3_v6_1]
  rfl

/-- The output's array. -/
theorem V6_v9 : V6 m ρ c main_v9 = fun i : S8192x8192.Idx => Spec.y (fun r k => V1 m ρ c main_v0 (ix2 r k)) (fun k => V1 m ρ c main_v3 (ix2 (0 : Fin 1) k)) (fun k => V1 m ρ c main_v4 (ix2 (0 : Fin 1) k)) (fun k n => V1 m ρ c main_arg3 (ix2 k n)) (fun n => V1 m ρ c main_v1 (ix2 (0 : Fin 1) n)) (fun k n => V1 m ρ c main_arg5 (ix2 k n)) (fun n => V1 m ρ c main_v2 (ix2 (0 : Fin 1) n)) (i 0) (i 1) := by
  refine (W6_arr m ρ c 5).trans ((arr4_5 (V5 m ρ) c).trans ?_)
  rw [V5_v0, V5_v8_0, V5_v8_1, V5_arg5, V5_v2]
  rfl

/-! ### The same at the last region's exit -/

/-- `main_v5_0` is unchanged up to boundary 6. -/
theorem V6_v5_0 : V6 m ρ c main_v5_0 = V2 m ρ c main_v5_0 :=
  (W6_of m ρ c main_v5_0 (by decide +kernel)).trans ((W5_of m ρ c main_v5_0 (by decide +kernel)).trans ((W4_of m ρ c main_v5_0 (by decide +kernel)).trans (W3_of m ρ c main_v5_0 (by decide +kernel))))
/-- `main_v5_1` is unchanged up to boundary 6. -/
theorem V6_v5_1 : V6 m ρ c main_v5_1 = V2 m ρ c main_v5_1 :=
  (W6_of m ρ c main_v5_1 (by decide +kernel)).trans ((W5_of m ρ c main_v5_1 (by decide +kernel)).trans ((W4_of m ρ c main_v5_1 (by decide +kernel)).trans (W3_of m ρ c main_v5_1 (by decide +kernel))))
/-- `main_v7` is unchanged up to boundary 6. -/
theorem V6_v7 : V6 m ρ c main_v7 = V4 m ρ c main_v7 :=
  (W6_of m ρ c main_v7 (by decide +kernel)).trans (W5_of m ρ c main_v7 (by decide +kernel))
/-- `main_v8_0` is unchanged up to boundary 6. -/
theorem V6_v8_0 : V6 m ρ c main_v8_0 = V5 m ρ c main_v8_0 :=
  W6_of m ρ c main_v8_0 (by decide +kernel)
/-- `main_v8_1` is unchanged up to boundary 6. -/
theorem V6_v8_1 : V6 m ρ c main_v8_1 = V5 m ρ c main_v8_1 :=
  W6_of m ρ c main_v8_1 (by decide +kernel)

end Cert.KernelIdeal.Val

end
-- ==== Proof.Value.KOut.lean ====
module

public import proofs.«01_k».proof.Proof.Value.KRun

/-! The kernel's eight results, as the layer's functions of its seven arguments. -/

@[expose] public section

set_option maxRecDepth 16384

noncomputable section

namespace Cert.KernelIdeal.Val

open Idealize.ShloMosaic Cert.KernelIdeal Cert.KernelIdeal.Gen Cert.KernelIdeal.Fr
open Idealize.ShloMosaic.TcCoe

variable (m : (ℓ : Loc nD τ sig) → Buf (Elt Ideal) ℓ) (ρ : Dev nD → PrngReg) (c : Dev nD)

/-! ### The operands, as index functions of the program's arguments -/

/-- The input's rows. -/
abbrev ax (r k : Fin 8192) : EReal := shapeCast S8192x8192 (m ((c : Thread nD τ).loc main_arg0)) shapeCasts_S2x4096x8192_S8192x8192 (ix2 r k)
/-- The gain. -/
abbrev ag (k : Fin 8192) : EReal := shapeCast S1x8192 (m ((c : Thread nD τ).loc main_arg1)) shapeCasts_S8192_S1x8192 (ix2 (0 : Fin 1) k)
/-- The smoothing scale. -/
abbrev asm (k : Fin 8192) : EReal := shapeCast S1x8192 (m ((c : Thread nD τ).loc main_arg2)) shapeCasts_S8192_S1x8192 (ix2 (0 : Fin 1) k)
/-- The first product's codes. -/
abbrev aw (k : Fin 8192) (n : Fin 47104) : BitVec 8 := m ((c : Thread nD τ).loc main_arg3) (ix2 k n)
/-- The first product's column scales. -/
abbrev aws (n : Fin 47104) : EReal := shapeCast S1x47104 (m ((c : Thread nD τ).loc main_arg4)) shapeCasts_S47104_S1x47104 (ix2 (0 : Fin 1) n)
/-- The second product's codes. -/
abbrev awd (k : Fin 18432) (n : Fin 8192) : BitVec 8 := m ((c : Thread nD τ).loc main_arg5) (ix2 k n)
/-- The second product's column scales. -/
abbrev awds (n : Fin 8192) : EReal := shapeCast S1x8192 (m ((c : Thread nD τ).loc main_arg6)) shapeCasts_S8192_S1x8192 (ix2 (0 : Fin 1) n)

/-! ### The first region's operands, read through the reshapes before it -/

/-- What `main_v0` holds at the first region's entry. -/
theorem V1_v0 : V1 m ρ c main_v0 = shapeCast S8192x8192 (m ((c : Thread nD τ).loc main_arg0)) shapeCasts_S2x4096x8192_S8192x8192 := by
  show StableHlo.after hostOps0 (W0 m ρ c) (Proc.devRef .tc main_v0) = _
  simp only [hostOps0]
  after_results <;> rfl
/-- What `main_v1` holds at the first region's entry. -/
theorem V1_v1 : V1 m ρ c main_v1 = shapeCast S1x47104 (m ((c : Thread nD τ).loc main_arg4)) shapeCasts_S47104_S1x47104 := by
  show StableHlo.after hostOps0 (W0 m ρ c) (Proc.devRef .tc main_v1) = _
  simp only [hostOps0]
  after_results <;> rfl
/-- What `main_v2` holds at the first region's entry. -/
theorem V1_v2 : V1 m ρ c main_v2 = shapeCast S1x8192 (m ((c : Thread nD τ).loc main_arg6)) shapeCasts_S8192_S1x8192 := by
  show StableHlo.after hostOps0 (W0 m ρ c) (Proc.devRef .tc main_v2) = _
  simp only [hostOps0]
  after_results <;> rfl
/-- What `main_v3` holds at the first region's entry. -/
theorem V1_v3 : V1 m ρ c main_v3 = shapeCast S1x8192 (m ((c : Thread nD τ).loc main_arg1)) shapeCasts_S8192_S1x8192 := by
  show StableHlo.after hostOps0 (W0 m ρ c) (Proc.devRef .tc main_v3) = _
  simp only [hostOps0]
  after_results <;> rfl
/-- What `main_v4` holds at the first region's entry. -/
theorem V1_v4 : V1 m ρ c main_v4 = shapeCast S1x8192 (m ((c : Thread nD τ).loc main_arg2)) shapeCasts_S8192_S1x8192 := by
  show StableHlo.after hostOps0 (W0 m ρ c) (Proc.devRef .tc main_v4) = _
  simp only [hostOps0]
  after_results <;> rfl
/-- What `main_arg3` holds at the first region's entry. -/
theorem V1_arg3 : V1 m ρ c main_arg3 = m ((c : Thread nD τ).loc main_arg3) := W1_args m ρ c main_arg3 (by decide)
/-- What `main_arg5` holds at the first region's entry. -/
theorem V1_arg5 : V1 m ρ c main_arg5 = m ((c : Thread nD τ).loc main_arg5) := W1_args m ρ c main_arg5 (by decide)

/-- The operand that the first call reads as the input, from the arguments. -/
theorem in_x : (fun r k => V1 m ρ c main_v0 (ix2 r k)) = ax m c :=
  funext fun r => funext fun k => congrFun (V1_v0 m ρ c) (ix2 r k)
/-- The operand that the first call reads as the gain, from the arguments. -/
theorem in_g : (fun k => V1 m ρ c main_v3 (ix2 (0 : Fin 1) k)) = ag m c :=
  funext fun k => congrFun (V1_v3 m ρ c) (ix2 (0 : Fin 1) k)
/-- The operand that the first call reads as the smoothing scale, from the arguments. -/
theorem in_s : (fun k => V1 m ρ c main_v4 (ix2 (0 : Fin 1) k)) = asm m c :=
  funext fun k => congrFun (V1_v4 m ρ c) (ix2 (0 : Fin 1) k)
/-- The operand that the first call reads as the first product's codes, from the arguments. -/
theorem in_w : (fun k n => V1 m ρ c main_arg3 (ix2 k n)) = aw m c :=
  funext fun r => funext fun k => congrFun (V1_arg3 m ρ c) (ix2 r k)
/-- The operand that the first call reads as the first product's column scales, from the arguments. -/
theorem in_ws : (fun n => V1 m ρ c main_v1 (ix2 (0 : Fin 1) n)) = aws m c :=
  funext fun k => congrFun (V1_v1 m ρ c) (ix2 (0 : Fin 1) k)
/-- The operand that the first call reads as the second product's codes, from the arguments. -/
theorem in_wd : (fun k n => V1 m ρ c main_arg5 (ix2 k n)) = awd m c :=
  funext fun r => funext fun k => congrFun (V1_arg5 m ρ c) (ix2 r k)
/-- The operand that the first call reads as the second product's column scales, from the arguments. -/
theorem in_wds : (fun n => V1 m ρ c main_v2 (ix2 (0 : Fin 1) n)) = awds m c :=
  funext fun k => congrFun (V1_v2 m ρ c) (ix2 (0 : Fin 1) k)

/-! ### The slices -/

section Slices

variable (Z : Fin 8192 → Fin 47104 → EReal) (S : Fin 8192 → EReal)

/-- The first 8192 columns. -/
theorem slice_q : extractStridedSlice S8192x8192 ![0, 0] (fun i : S8192x10240.Idx => Z (i 0) (⟨(i 1).val, by have := ValueIdx.idx2_lt1 i; omega⟩ : Fin 47104)) slices_S8192x10240_S8192x8192_0_0
    = fun i : S8192x8192.Idx => Z (i 0) (⟨(i 1).val, by have := ValueIdx.idx2_lt1 i; omega⟩ : Fin 47104) :=
  funext fun i => congr (congrArg Z (Fin.ext (Nat.zero_add _))) (Fin.ext (Nat.zero_add _))
/-- The 1024 columns from 8192 on. -/
theorem slice_k : extractStridedSlice S8192x1024 ![0, 8192] (fun i : S8192x10240.Idx => Z (i 0) (⟨(i 1).val, by have := ValueIdx.idx2_lt1 i; omega⟩ : Fin 47104)) slices_S8192x10240_S8192x1024_0_8192
    = fun i : S8192x1024.Idx => Z (i 0) (⟨8192 + (i 1).val, by have := ValueIdx.idx2_lt1 i; omega⟩ : Fin 47104) :=
  funext fun i => congr (congrArg Z (Fin.ext (Nat.zero_add _))) (Fin.ext rfl)
/-- The 1024 columns from 9216 on. -/
theorem slice_v : extractStridedSlice S8192x1024 ![0, 9216] (fun i : S8192x10240.Idx => Z (i 0) (⟨(i 1).val, by have := ValueIdx.idx2_lt1 i; omega⟩ : Fin 47104)) slices_S8192x10240_S8192x1024_0_9216
    = fun i : S8192x1024.Idx => Z (i 0) (⟨9216 + (i 1).val, by have := ValueIdx.idx2_lt1 i; omega⟩ : Fin 47104) :=
  funext fun i => congr (congrArg Z (Fin.ext (Nat.zero_add _))) (Fin.ext rfl)
/-- The first lane. -/
theorem slice_s : extractStridedSlice S8192x1 ![0, 0] (fun i : S8192x128.Idx => S (i 0)) slices_S8192x128_S8192x1_0_0
    = fun i : S8192x1.Idx => S (i 0) :=
  funext fun i => congrArg S (Fin.ext (Nat.zero_add _))

end Slices

/-! ### The results, read through the slices and reshapes after the last region -/

section Tail

variable (σ : Valuation τ sig (Elt Ideal))

/-- The queries, from the contents at the last region's exit. -/
theorem tail_q : StableHlo.after hostOps5 σ (Proc.devRef .tc main_v11) = shapeCast S2x4096x64x128 (extractStridedSlice S8192x8192 ![0, 0] (σ (Proc.devRef .tc main_v7)) slices_S8192x10240_S8192x8192_0_0) shapeCasts_S8192x8192_S2x4096x64x128 := by
  simp only [hostOps5]
  after_results <;> rfl
/-- The keys, from the contents at the last region's exit. -/
theorem tail_k : StableHlo.after hostOps5 σ (Proc.devRef .tc main_v13) = shapeCast S2x4096x8x128 (extractStridedSlice S8192x1024 ![0, 8192] (σ (Proc.devRef .tc main_v7)) slices_S8192x10240_S8192x1024_0_8192) shapeCasts_S8192x1024_S2x4096x8x128 := by
  simp only [hostOps5]
  after_results <;> rfl
/-- The values, from the contents at the last region's exit. -/
theorem tail_v : StableHlo.after hostOps5 σ (Proc.devRef .tc main_v15) = shapeCast S2x4096x8x128 (extractStridedSlice S8192x1024 ![0, 9216] (σ (Proc.devRef .tc main_v7)) slices_S8192x10240_S8192x1024_0_9216) shapeCasts_S8192x1024_S2x4096x8x128 := by
  simp only [hostOps5]
  after_results <;> rfl
/-- The output, from the contents at the last region's exit. -/
theorem tail_y : StableHlo.after hostOps5 σ (Proc.devRef .tc main_v16) = shapeCast S2x4096x8192 (σ (Proc.devRef .tc main_v9)) shapeCasts_S8192x8192_S2x4096x8192 := by
  simp only [hostOps5]
  after_results <;> rfl
/-- The input's codes, from the contents at the last region's exit. -/
theorem tail_xc : StableHlo.after hostOps5 σ (Proc.devRef .tc main_v17) = shapeCast S2x4096x8192 (σ (Proc.devRef .tc main_v5_0)) shapeCasts_S8192x8192_S2x4096x8192 := by
  simp only [hostOps5]
  after_results <;> rfl
/-- The input's scales, from the contents at the last region's exit. -/
theorem tail_xs : StableHlo.after hostOps5 σ (Proc.devRef .tc main_v20) = shapeCast S2x4096 (shapeCast S8192 (extractStridedSlice S8192x1 ![0, 0] (σ (Proc.devRef .tc main_v5_1)) slices_S8192x128_S8192x1_0_0) shapeCasts_S8192x1_S8192) shapeCasts_S8192_S2x4096 := by
  simp only [hostOps5]
  after_results <;> rfl
/-- The hidden activation's codes, from the contents at the last region's exit. -/
theorem tail_hc : StableHlo.after hostOps5 σ (Proc.devRef .tc main_v21) = shapeCast S2x4096x18432 (σ (Proc.devRef .tc main_v8_0)) shapeCasts_S8192x18432_S2x4096x18432 := by
  simp only [hostOps5]
  after_results <;> rfl
/-- The hidden activation's scales, from the contents at the last region's exit. -/
theorem tail_hs : StableHlo.after hostOps5 σ (Proc.devRef .tc main_v24) = shapeCast S2x4096 (shapeCast S8192 (extractStridedSlice S8192x1 ![0, 0] (σ (Proc.devRef .tc main_v8_1)) slices_S8192x128_S8192x1_0_0) shapeCasts_S8192x1_S8192) shapeCasts_S8192_S2x4096 := by
  simp only [hostOps5]
  after_results <;> rfl

end Tail

/-- The queries that the kernel returns. -/
theorem out_q : W7 m ρ c (Proc.devRef .tc main_v11)
    = shapeCast S2x4096x64x128 (fun i : S8192x8192.Idx => Spec.q (ax m c) (ag m c) (asm m c) (aw m c) (aws m c) (i 0) (i 1)) shapeCasts_S8192x8192_S2x4096x64x128 := by
  refine (tail_q (W6 m ρ c)).trans ?_
  rw [show W6 m ρ c (Proc.devRef .tc main_v7) = V6 m ρ c main_v7 from rfl, V6_v7 m ρ c, V4_v7 m ρ c]
  rw [in_x, in_g, in_s, in_w, in_ws]
  exact congrArg (fun f => shapeCast S2x4096x64x128 f shapeCasts_S8192x8192_S2x4096x64x128) (slice_q (Spec.z (ax m c) (ag m c) (asm m c) (aw m c) (aws m c)))
/-- The keys that the kernel returns. -/
theorem out_k : W7 m ρ c (Proc.devRef .tc main_v13)
    = shapeCast S2x4096x8x128 (fun i : S8192x1024.Idx => Spec.k (ax m c) (ag m c) (asm m c) (aw m c) (aws m c) (i 0) (i 1)) shapeCasts_S8192x1024_S2x4096x8x128 := by
  refine (tail_k (W6 m ρ c)).trans ?_
  rw [show W6 m ρ c (Proc.devRef .tc main_v7) = V6 m ρ c main_v7 from rfl, V6_v7 m ρ c, V4_v7 m ρ c]
  rw [in_x, in_g, in_s, in_w, in_ws]
  exact congrArg (fun f => shapeCast S2x4096x8x128 f shapeCasts_S8192x1024_S2x4096x8x128) (slice_k (Spec.z (ax m c) (ag m c) (asm m c) (aw m c) (aws m c)))
/-- The values that the kernel returns. -/
theorem out_v : W7 m ρ c (Proc.devRef .tc main_v15)
    = shapeCast S2x4096x8x128 (fun i : S8192x1024.Idx => Spec.v (ax m c) (ag m c) (asm m c) (aw m c) (aws m c) (i 0) (i 1)) shapeCasts_S8192x1024_S2x4096x8x128 := by
  refine (tail_v (W6 m ρ c)).trans ?_
  rw [show W6 m ρ c (Proc.devRef .tc main_v7) = V6 m ρ c main_v7 from rfl, V6_v7 m ρ c, V4_v7 m ρ c]
  rw [in_x, in_g, in_s, in_w, in_ws]
  exact congrArg (fun f => shapeCast S2x4096x8x128 f shapeCasts_S8192x1024_S2x4096x8x128) (slice_v (Spec.z (ax m c) (ag m c) (asm m c) (aw m c) (aws m c)))
/-- The output that the kernel returns. -/
theorem out_y : W7 m ρ c (Proc.devRef .tc main_v16)
    = shapeCast S2x4096x8192 (fun i : S8192x8192.Idx => Spec.y (ax m c) (ag m c) (asm m c) (aw m c) (aws m c) (awd m c) (awds m c) (i 0) (i 1)) shapeCasts_S8192x8192_S2x4096x8192 := by
  refine (tail_y (W6 m ρ c)).trans ?_
  rw [show W6 m ρ c (Proc.devRef .tc main_v9) = V6 m ρ c main_v9 from rfl, V6_v9 m ρ c]
  rw [in_x, in_g, in_s, in_w, in_ws, in_wd, in_wds]
/-- The input's codes that the kernel returns. -/
theorem out_xc : W7 m ρ c (Proc.devRef .tc main_v17)
    = shapeCast S2x4096x8192 (fun i : S8192x8192.Idx => Spec.xc (ax m c) (ag m c) (asm m c) (i 0) (i 1)) shapeCasts_S8192x8192_S2x4096x8192 := by
  refine (tail_xc (W6 m ρ c)).trans ?_
  rw [show W6 m ρ c (Proc.devRef .tc main_v5_0) = V6 m ρ c main_v5_0 from rfl, V6_v5_0 m ρ c, V2_v5_0 m ρ c]
  rw [in_x, in_g, in_s]
/-- The input's scales that the kernel returns. -/
theorem out_xs : W7 m ρ c (Proc.devRef .tc main_v20)
    = shapeCast S2x4096 (fun i : S8192x1.Idx => Spec.xs (ax m c) (ag m c) (asm m c) (i 0)) (shapeCasts_S8192_S2x4096.trans shapeCasts_S8192x1_S8192) := by
  refine (tail_xs (W6 m ρ c)).trans ?_
  rw [show W6 m ρ c (Proc.devRef .tc main_v5_1) = V6 m ρ c main_v5_1 from rfl, V6_v5_1 m ρ c, V2_v5_1 m ρ c]
  rw [in_x, in_g, in_s]
  rw [shapeCast_comp]
  exact congrArg (fun f => shapeCast S2x4096 f (shapeCasts_S8192_S2x4096.trans shapeCasts_S8192x1_S8192)) (slice_s (Spec.xs (ax m c) (ag m c) (asm m c)))
/-- The hidden activation's codes that the kernel returns. -/
theorem out_hc : W7 m ρ c (Proc.devRef .tc main_v21)
    = shapeCast S2x4096x18432 (fun i : S8192x18432.Idx => Spec.hc (ax m c) (ag m c) (asm m c) (aw m c) (aws m c) (i 0) (i 1)) shapeCasts_S8192x18432_S2x4096x18432 := by
  refine (tail_hc (W6 m ρ c)).trans ?_
  rw [show W6 m ρ c (Proc.devRef .tc main_v8_0) = V6 m ρ c main_v8_0 from rfl, V6_v8_0 m ρ c, V5_v8_0 m ρ c]
  rw [in_x, in_g, in_s, in_w, in_ws]
/-- The hidden activation's scales that the kernel returns. -/
theorem out_hs : W7 m ρ c (Proc.devRef .tc main_v24)
    = shapeCast S2x4096 (fun i : S8192x1.Idx => Spec.hs (ax m c) (ag m c) (asm m c) (aw m c) (aws m c) (i 0)) (shapeCasts_S8192_S2x4096.trans shapeCasts_S8192x1_S8192) := by
  refine (tail_hs (W6 m ρ c)).trans ?_
  rw [show W6 m ρ c (Proc.devRef .tc main_v8_1) = V6 m ρ c main_v8_1 from rfl, V6_v8_1 m ρ c, V5_v8_1 m ρ c]
  rw [in_x, in_g, in_s, in_w, in_ws]
  rw [shapeCast_comp]
  exact congrArg (fun f => shapeCast S2x4096 f (shapeCasts_S8192_S2x4096.trans shapeCasts_S8192x1_S8192)) (slice_s (Spec.hs (ax m c) (ag m c) (asm m c) (aw m c) (aws m c)))

end Cert.KernelIdeal.Val

end
-- ==== Proof.Value.RPay.lean ====
module

public import proofs.«01_k».proof.Proof.Gen.ReferenceIdeal.Skeleton
public import proofs.«01_k».proof.Proof.Value.Spec
public import Idealize.ShloMosaic.Lib.Pointwise

/-! The values of the reference's body, entry by entry. -/

@[expose] public section

set_option maxRecDepth 16384

noncomputable section

namespace Cert.ReferenceIdeal.Val

open Idealize.ShloMosaic Cert.ReferenceIdeal Cert.ReferenceIdeal.Gen

/-- The scale column that both quantisers form from a column of largest magnitudes. -/
def scaleCol (a : FVec Ideal S8192x1 .f32) : FVec Ideal S8192x1 .f32 :=
  select (cmpf .ogt a (broadcast S8192x1 (Scalar.ofBits (F := Ideal) .f32 0x00000000#32)))
    (divf a (broadcast S8192x1 (Scalar.ofBits (F := Ideal) .f32 0x42FE0000#32))) (broadcast S8192x1 (Scalar.ofBits (F := Ideal) .f32 0x3F800000#32))

/-- An entry of the scale column is the quantiser's scale of that row's largest magnitude. -/
theorem scaleCol_at (a : FVec Ideal S8192x1 .f32) (r : Fin 8192) : scaleCol a (ix2 r (0 : Fin 1)) = Spec.scale (a (ix2 r 0)) := by
  pointwise [scaleCol]; rfl

/-- The column of largest magnitudes of an array with 8192 columns. -/
theorem amaxCol_8192 (v : FVec Ideal S8192x8192 .f32) (r : Fin 8192) :
    shapeCast S8192x1 (multiReduction .maximumf [1] S8192 (absf v) 0xFF800000#32 reduces_S8192x8192_S8192 (.inl rfl) rfl) shapeCasts_S8192_S8192x1
      (ix2 r (0 : Fin 1)) = Spec.amax (fun k : Fin 8192 => v (ix2 r k)) := by
  pointwise []; rfl

/-- The column of largest magnitudes of an array with 18432 columns. -/
theorem amaxCol_18432 (v : FVec Ideal S8192x18432 .f32) (r : Fin 8192) :
    shapeCast S8192x1 (multiReduction .maximumf [1] S8192 (absf v) 0xFF800000#32 reduces_S8192x18432_S8192 (.inl rfl) rfl) shapeCasts_S8192_S8192x1
      (ix2 r (0 : Fin 1)) = Spec.amax (fun k : Fin 18432 => v (ix2 r k)) := by
  pointwise []; rfl

/-- The codes of an array with 8192 columns at a column of scales. -/
theorem code8192 (v : FVec Ideal S8192x8192 .f32) (a : FVec Ideal S8192x1 .f32) (r : Fin 8192) (k : Fin 8192) :
    fptosi (F := Ideal) 8 (minimumf (broadcast S8192x8192 (Scalar.ofBits (F := Ideal) .f32 0x42FE0000#32))
      (maximumf (broadcast S8192x8192 (Scalar.ofBits (F := Ideal) .f32 0xC2FE0000#32))
        (roundeven (divf v (broadcastTo S8192x8192 a broadcasts_S8192x1_S8192x8192))))) (ix2 r k)
      = Spec.code (v (ix2 r k)) (a (ix2 r 0)) := by
  pointwise []; rfl

/-- The codes of an array with 18432 columns at a column of scales. -/
theorem code18432 (v : FVec Ideal S8192x18432 .f32) (a : FVec Ideal S8192x1 .f32) (r : Fin 8192) (k : Fin 18432) :
    fptosi (F := Ideal) 8 (minimumf (broadcast S8192x18432 (Scalar.ofBits (F := Ideal) .f32 0x42FE0000#32))
      (maximumf (broadcast S8192x18432 (Scalar.ofBits (F := Ideal) .f32 0xC2FE0000#32))
        (roundeven (divf v (broadcastTo S8192x18432 a broadcasts_S8192x1_S8192x18432))))) (ix2 r k)
      = Spec.code (v (ix2 r k)) (a (ix2 r 0)) := by
  pointwise []; rfl

section First

variable (x : FVec Ideal S8192x8192 .bf16) (g s : FVec Ideal S1x8192 .f32) (w : IVec S8192x47104 8)

/-- The normalised rows. -/
theorem pay3_at (r k : Fin 8192) :
    k0_pay3 (F := Ideal) x g s (ix2 r k)
      = Spec.normv (fun j => x (ix2 r j)) (fun j => g (ix2 0 j)) (fun j => s (ix2 0 j)) k := by
  pointwise [k0_pay3, k0_pay2]; rfl

/-- The rows' scales. -/
theorem pay4_at (r : Fin 8192) :
    k0_pay4 (F := Ideal) x g s (ix2 r (0 : Fin 1))
      = Spec.xs (fun r k => x (ix2 r k)) (fun j => g (ix2 0 j)) (fun j => s (ix2 0 j)) r := by
  unfold k0_pay4
  refine (scaleCol_at _ r).trans ?_
  rw [amaxCol_8192]
  simp only [pay3_at]
  unfold Spec.xs
  with_reducible rfl

/-- The rows' codes. -/
theorem pay5_at (r k : Fin 8192) :
    k0_pay5 (F := Ideal) x g s (ix2 r k)
      = Spec.xc (fun r k => x (ix2 r k)) (fun j => g (ix2 0 j)) (fun j => s (ix2 0 j)) r k := by
  refine (code8192 _ _ r k).trans ?_
  rw [pay3_at, pay4_at]
  unfold Spec.xc
  with_reducible rfl

/-- The first product. -/
theorem pay6_at (r : Fin 8192) (c : Fin 47104) :
    k0_pay6 (F := Ideal) x g s w (ix2 r c)
      = Spec.dot (Spec.xc (fun r k => x (ix2 r k)) (fun j => g (ix2 0 j)) (fun j => s (ix2 0 j)) r) (fun k => w (ix2 k c)) := by
  pointwise [k0_pay6]
  simp only [pay5_at]
  rfl

end First

section Second

variable (sc : FVec Ideal S8192x1 .f32) (p : FVec Ideal S8192x47104 .f32) (ws : FVec Ideal S1x47104 .f32)

/-- The first product dequantised. -/
theorem pay7_at (r : Fin 8192) (c : Fin 47104) :
    k0_pay7 (F := Ideal) sc p ws (ix2 r c) = (p (ix2 r c) * sc (ix2 r 0) * ws (ix2 0 c) : EReal) := by
  pointwise [k0_pay7]

/-- The queries. -/
theorem pay8_at (r : Fin 8192) (c : Fin 8192) :
    k0_pay8 (F := Ideal) sc p ws (ix2 r c) = k0_pay7 (F := Ideal) sc p ws (ix2 r ⟨c.val, by omega⟩) := by
  pointwise [k0_pay8]

/-- The keys. -/
theorem pay9_at (r : Fin 8192) (c : Fin 1024) :
    k0_pay9 (F := Ideal) sc p ws (ix2 r c) = k0_pay7 (F := Ideal) sc p ws (ix2 r ⟨8192 + c.val, by omega⟩) := by
  pointwise [k0_pay9]

/-- The values. -/
theorem pay10_at (r : Fin 8192) (c : Fin 1024) :
    k0_pay10 (F := Ideal) sc p ws (ix2 r c) = k0_pay7 (F := Ideal) sc p ws (ix2 r ⟨9216 + c.val, by omega⟩) := by
  pointwise [k0_pay10]

/-- The hidden activation. -/
theorem pay11_at (r : Fin 8192) (c : Fin 18432) :
    k0_pay11 (F := Ideal) sc p ws (ix2 r c)
      = Spec.act (k0_pay7 (F := Ideal) sc p ws (ix2 r ⟨10240 + c.val, by omega⟩)) (k0_pay7 (F := Ideal) sc p ws (ix2 r ⟨28672 + c.val, by omega⟩)) := by
  pointwise [k0_pay11]; rfl

/-- The hidden rows' scales. -/
theorem pay12_at (r : Fin 8192) :
    k0_pay12 (F := Ideal) sc p ws (ix2 r (0 : Fin 1)) = Spec.scale (Spec.amax fun c : Fin 18432 => k0_pay11 (F := Ideal) sc p ws (ix2 r c)) := by
  unfold k0_pay12
  refine (scaleCol_at _ r).trans ?_
  rw [amaxCol_18432]

/-- The hidden rows' codes. -/
theorem pay13_at (r : Fin 8192) (c : Fin 18432) :
    k0_pay13 (F := Ideal) sc p ws (ix2 r c)
      = Spec.code (k0_pay11 (F := Ideal) sc p ws (ix2 r c)) (k0_pay12 (F := Ideal) sc p ws (ix2 r 0)) := by
  exact code18432 _ _ r c

/-- The hidden rows' codes as numbers. -/
theorem pay14_at (r : Fin 8192) (c : Fin 18432) :
    k0_pay14 (F := Ideal) sc p ws (ix2 r c) = Spec.num (k0_pay13 (F := Ideal) sc p ws (ix2 r c)) := by
  pointwise [k0_pay14]; rfl

end Second

/-- The second weight's codes as numbers. -/
theorem pay15_at (w : IVec S18432x8192 8) (k : Fin 18432) (c : Fin 8192) :
    k0_pay15 (F := Ideal) w (ix2 k c) = Spec.num (w (ix2 k c)) := by
  pointwise [k0_pay15]; rfl

/-- The input, unchanged by its widening. -/
theorem pay2_at (x : FVec Ideal S8192x8192 .bf16) (r c : Fin 8192) :
    k0_pay2 (F := Ideal) x (ix2 r c) = x (ix2 r c) := by
  pointwise [k0_pay2]

/-- The output from the second product's operands. -/
theorem pay1_at (x : FVec Ideal S8192x8192 .f32) (sc : FVec Ideal S8192x1 .f32) (a : FVec Ideal S8192x18432 .bf16)
    (b : FVec Ideal S18432x8192 .bf16) (ws : FVec Ideal S1x8192 .f32) (r c : Fin 8192) :
    k0_pay1 (F := Ideal) x sc a b (constant S8192x8192 .f32 0x00000000#32) ws (ix2 r c)
      = (x (ix2 r c) + (∑ k : Fin 18432, a (ix2 r k) * b (ix2 k c)) * sc (ix2 r 0) * ws (ix2 0 c) : EReal) := by
  pointwise [k0_pay1]

end Cert.ReferenceIdeal.Val

end
-- ==== Proof.Value.RArr.lean ====
module

public import proofs.«01_k».proof.Proof.Gen.ReferenceIdeal.Run
public import proofs.«01_k».proof.Proof.Value.RPay
public import Idealize.ShloMosaic.Lib.Pipeline.ValueKit

/-! What the reference's call leaves in its eight result arrays, entry by entry: the layer's functions of its seven operands. -/

@[expose] public section

set_option maxRecDepth 16384

noncomputable section

namespace Cert.ReferenceIdeal.Val

open Idealize.ShloMosaic Cert.ReferenceIdeal Cert.ReferenceIdeal.Gen
open Idealize.ShloMosaic.TcCoe

section Pays

variable (x : FVec Ideal S8192x8192 .bf16) (g s : FVec Ideal S1x8192 .f32) (w : IVec S8192x47104 8) (ws : FVec Ideal S1x47104 .f32)
  (wd : IVec S18432x8192 8) (wds : FVec Ideal S1x8192 .f32)

/-- The first product dequantised, from the operands. -/
theorem z_at (r : Fin 8192) (c : Fin 47104) :
    k0_pay7 (F := Ideal) (k0_pay4 x g s) (k0_pay6 x g s w) ws (ix2 r c)
      = Spec.z (fun r k => x (ix2 r k)) (fun k => g (ix2 0 k)) (fun k => s (ix2 0 k)) (fun k c => w (ix2 k c)) (fun c => ws (ix2 0 c)) r c := by
  rw [pay7_at, pay4_at, pay6_at]
  rfl

/-- The hidden activation, from the operands. -/
theorem h_at (r : Fin 8192) (c : Fin 18432) :
    k0_pay11 (F := Ideal) (k0_pay4 x g s) (k0_pay6 x g s w) ws (ix2 r c)
      = Spec.h (fun r k => x (ix2 r k)) (fun k => g (ix2 0 k)) (fun k => s (ix2 0 k)) (fun k c => w (ix2 k c)) (fun c => ws (ix2 0 c)) r c := by
  rw [pay11_at, z_at, z_at]
  rfl

/-- The hidden rows' scales, from the operands. -/
theorem hs_at (r : Fin 8192) :
    k0_pay12 (F := Ideal) (k0_pay4 x g s) (k0_pay6 x g s w) ws (ix2 r (0 : Fin 1))
      = Spec.hs (fun r k => x (ix2 r k)) (fun k => g (ix2 0 k)) (fun k => s (ix2 0 k)) (fun k c => w (ix2 k c)) (fun c => ws (ix2 0 c)) r := by
  rw [pay12_at]
  simp only [h_at]
  unfold Spec.hs
  with_reducible rfl

/-- The hidden rows' codes, from the operands. -/
theorem hc_at (r : Fin 8192) (c : Fin 18432) :
    k0_pay13 (F := Ideal) (k0_pay4 x g s) (k0_pay6 x g s w) ws (ix2 r c)
      = Spec.hc (fun r k => x (ix2 r k)) (fun k => g (ix2 0 k)) (fun k => s (ix2 0 k)) (fun k c => w (ix2 k c)) (fun c => ws (ix2 0 c)) r c := by
  rw [pay13_at, h_at, hs_at]
  unfold Spec.hc
  with_reducible rfl

/-- The output, from the operands. -/
theorem y_at (r c : Fin 8192) :
    k0_pay1 (F := Ideal) (k0_pay2 x) (k0_pay12 (k0_pay4 x g s) (k0_pay6 x g s w) ws) (k0_pay14 (k0_pay4 x g s) (k0_pay6 x g s w) ws)
      (k0_pay15 wd) (constant S8192x8192 .f32 0x00000000#32) wds (ix2 r c)
      = Spec.y (fun r k => x (ix2 r k)) (fun k => g (ix2 0 k)) (fun k => s (ix2 0 k)) (fun k c => w (ix2 k c)) (fun c => ws (ix2 0 c)) (fun k c => wd (ix2 k c)) (fun c => wds (ix2 0 c)) r c := by
  rw [pay1_at, pay2_at, hs_at]
  simp only [pay14_at, pay15_at, hc_at]
  unfold Spec.y Spec.dot
  with_reducible rfl

end Pays

variable (m : (ℓ : Loc nD τ sig) → Buf (Elt Ideal) ℓ) (c : Dev nD)

/-- The block index of each window at a grid point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] := by decide +kernel

/-- The block index of each result window. -/
theorem idxo : ∀ t : Fin cfg0.N, win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] := by decide +kernel

/-- An entry of window 0's block is an entry of its array. -/
theorem iblk_0_at (t : Fin cfg0.N) (r : Fin 8192) (k : Fin 8192) : iblk m c 0 t (ix2 r k) = V m c main_v0 (ix2 r k) := by
  blk_ext [iblk, (idx t).1]
/-- An entry of window 1's block is an entry of its array. -/
theorem iblk_1_at (t : Fin cfg0.N) (r : Fin 1) (k : Fin 8192) : iblk m c 1 t (ix2 r k) = V m c main_v1 (ix2 r k) := by
  blk_ext [iblk, (idx t).2.1]
/-- An entry of window 2's block is an entry of its array. -/
theorem iblk_2_at (t : Fin cfg0.N) (r : Fin 1) (k : Fin 8192) : iblk m c 2 t (ix2 r k) = V m c main_v2 (ix2 r k) := by
  blk_ext [iblk, (idx t).2.2.1]
/-- An entry of window 3's block is an entry of its array. -/
theorem iblk_3_at (t : Fin cfg0.N) (r : Fin 8192) (k : Fin 47104) : iblk m c 3 t (ix2 r k) = V m c main_arg3 (ix2 r k) := by
  blk_ext [iblk, (idx t).2.2.2.1]
/-- An entry of window 4's block is an entry of its array. -/
theorem iblk_4_at (t : Fin cfg0.N) (r : Fin 1) (k : Fin 47104) : iblk m c 4 t (ix2 r k) = V m c main_v3 (ix2 r k) := by
  blk_ext [iblk, (idx t).2.2.2.2.1]
/-- An entry of window 5's block is an entry of its array. -/
theorem iblk_5_at (t : Fin cfg0.N) (r : Fin 18432) (k : Fin 8192) : iblk m c 5 t (ix2 r k) = V m c main_arg5 (ix2 r k) := by
  blk_ext [iblk, (idx t).2.2.2.2.2.1]
/-- An entry of window 6's block is an entry of its array. -/
theorem iblk_6_at (t : Fin cfg0.N) (r : Fin 1) (k : Fin 8192) : iblk m c 6 t (ix2 r k) = V m c main_v4 (ix2 r k) := by
  blk_ext [iblk, (idx t).2.2.2.2.2.2]

/-- The queries. -/
theorem reg_q : Value.reg_main_v5_0 m c
    = fun i : S8192x8192.Idx => Spec.q (fun r k => V m c main_v0 (ix2 r k)) (fun k => V m c main_v1 (ix2 (0 : Fin 1) k)) (fun k => V m c main_v2 (ix2 (0 : Fin 1) k)) (fun k n => V m c main_arg3 (ix2 k n)) (fun n => V m c main_v3 (ix2 (0 : Fin 1) n)) (i 0) (i 1) := by
  unfold Value.reg_main_v5_0
  refine (dats m 0 c).arrAt_eq_of_covers 7 _ (by decide +kernel) fun t hf y => ?_
  blk_simp
  rw [after0_7]
  unfold_out out0_7
  frame_out
  obtain ⟨r, k, rfl⟩ : ∃ (r : Fin 8192) (k : Fin 8192), y = ix2 r k := ⟨y 0, y 1, ValueIdx.eq_ix2 y⟩
  rw [show ((View.whole main_v5_0).slice (win0_7.rect t)).emb (ix2 r k) 0 = r from Fin.ext (by blk_simp [(idxo t).1]),
    show ((View.whole main_v5_0).slice (win0_7.rect t)).emb (ix2 r k) 1 = k from Fin.ext (by blk_simp [(idxo t).1])]
  refine (pay8_at _ _ _ r k).trans ((z_at _ _ _ _ _ r _).trans ?_)
  simp only [iblk_0_at, iblk_1_at, iblk_2_at, iblk_3_at, iblk_4_at, iblk_5_at, iblk_6_at]
  rfl

/-- The keys. -/
theorem reg_k : Value.reg_main_v5_1 m c
    = fun i : S8192x1024.Idx => Spec.k (fun r k => V m c main_v0 (ix2 r k)) (fun k => V m c main_v1 (ix2 (0 : Fin 1) k)) (fun k => V m c main_v2 (ix2 (0 : Fin 1) k)) (fun k n => V m c main_arg3 (ix2 k n)) (fun n => V m c main_v3 (ix2 (0 : Fin 1) n)) (i 0) (i 1) := by
  unfold Value.reg_main_v5_1
  refine (dats m 0 c).arrAt_eq_of_covers 8 _ (by decide +kernel) fun t hf y => ?_
  blk_simp
  rw [after0_8]
  unfold_out out0_8
  frame_out
  obtain ⟨r, k, rfl⟩ : ∃ (r : Fin 8192) (k : Fin 1024), y = ix2 r k := ⟨y 0, y 1, ValueIdx.eq_ix2 y⟩
  rw [show ((View.whole main_v5_1).slice (win0_8.rect t)).emb (ix2 r k) 0 = r from Fin.ext (by blk_simp [(idxo t).2.1]),
    show ((View.whole main_v5_1).slice (win0_8.rect t)).emb (ix2 r k) 1 = k from Fin.ext (by blk_simp [(idxo t).2.1])]
  refine (pay9_at _ _ _ r k).trans ((z_at _ _ _ _ _ r _).trans ?_)
  simp only [iblk_0_at, iblk_1_at, iblk_2_at, iblk_3_at, iblk_4_at, iblk_5_at, iblk_6_at]
  rfl

/-- The values. -/
theorem reg_v : Value.reg_main_v5_2 m c
    = fun i : S8192x1024.Idx => Spec.v (fun r k => V m c main_v0 (ix2 r k)) (fun k => V m c main_v1 (ix2 (0 : Fin 1) k)) (fun k => V m c main_v2 (ix2 (0 : Fin 1) k)) (fun k n => V m c main_arg3 (ix2 k n)) (fun n => V m c main_v3 (ix2 (0 : Fin 1) n)) (i 0) (i 1) := by
  unfold Value.reg_main_v5_2
  refine (dats m 0 c).arrAt_eq_of_covers 9 _ (by decide +kernel) fun t hf y => ?_
  blk_simp
  rw [after0_9]
  unfold_out out0_9
  frame_out
  obtain ⟨r, k, rfl⟩ : ∃ (r : Fin 8192) (k : Fin 1024), y = ix2 r k := ⟨y 0, y 1, ValueIdx.eq_ix2 y⟩
  rw [show ((View.whole main_v5_2).slice (win0_9.rect t)).emb (ix2 r k) 0 = r from Fin.ext (by blk_simp [(idxo t).2.2.1]),
    show ((View.whole main_v5_2).slice (win0_9.rect t)).emb (ix2 r k) 1 = k from Fin.ext (by blk_simp [(idxo t).2.2.1])]
  refine (pay10_at _ _ _ r k).trans ((z_at _ _ _ _ _ r _).trans ?_)
  simp only [iblk_0_at, iblk_1_at, iblk_2_at, iblk_3_at, iblk_4_at, iblk_5_at, iblk_6_at]
  rfl

/-- The output. -/
theorem reg_y : Value.reg_main_v5_3 m c
    = fun i : S8192x8192.Idx => Spec.y (fun r k => V m c main_v0 (ix2 r k)) (fun k => V m c main_v1 (ix2 (0 : Fin 1) k)) (fun k => V m c main_v2 (ix2 (0 : Fin 1) k)) (fun k n => V m c main_arg3 (ix2 k n)) (fun n => V m c main_v3 (ix2 (0 : Fin 1) n)) (fun k n => V m c main_arg5 (ix2 k n)) (fun n => V m c main_v4 (ix2 (0 : Fin 1) n)) (i 0) (i 1) := by
  unfold Value.reg_main_v5_3
  refine (dats m 0 c).arrAt_eq_of_covers 10 _ (by decide +kernel) fun t hf y => ?_
  blk_simp
  rw [after0_10]
  unfold_out out0_10
  frame_out
  obtain ⟨r, k, rfl⟩ : ∃ (r : Fin 8192) (k : Fin 8192), y = ix2 r k := ⟨y 0, y 1, ValueIdx.eq_ix2 y⟩
  rw [show ((View.whole main_v5_3).slice (win0_10.rect t)).emb (ix2 r k) 0 = r from Fin.ext (by blk_simp [(idxo t).2.2.2.1]),
    show ((View.whole main_v5_3).slice (win0_10.rect t)).emb (ix2 r k) 1 = k from Fin.ext (by blk_simp [(idxo t).2.2.2.1])]
  refine (y_at _ _ _ _ _ _ _ r k).trans ?_
  simp only [iblk_0_at, iblk_1_at, iblk_2_at, iblk_3_at, iblk_4_at, iblk_5_at, iblk_6_at]

/-- The input's codes. -/
theorem reg_xc : Value.reg_main_v5_4 m c
    = fun i : S8192x8192.Idx => Spec.xc (fun r k => V m c main_v0 (ix2 r k)) (fun k => V m c main_v1 (ix2 (0 : Fin 1) k)) (fun k => V m c main_v2 (ix2 (0 : Fin 1) k)) (i 0) (i 1) := by
  unfold Value.reg_main_v5_4
  refine (dats m 0 c).arrAt_eq_of_covers 11 _ (by decide +kernel) fun t hf y => ?_
  blk_simp
  rw [after0_11]
  unfold_out out0_11
  frame_out
  obtain ⟨r, k, rfl⟩ : ∃ (r : Fin 8192) (k : Fin 8192), y = ix2 r k := ⟨y 0, y 1, ValueIdx.eq_ix2 y⟩
  rw [show ((View.whole main_v5_4).slice (win0_11.rect t)).emb (ix2 r k) 0 = r from Fin.ext (by blk_simp [(idxo t).2.2.2.2.1]),
    show ((View.whole main_v5_4).slice (win0_11.rect t)).emb (ix2 r k) 1 = k from Fin.ext (by blk_simp [(idxo t).2.2.2.2.1])]
  refine (pay5_at _ _ _ r k).trans ?_
  simp only [iblk_0_at, iblk_1_at, iblk_2_at, iblk_3_at, iblk_4_at, iblk_5_at, iblk_6_at]

/-- The input's scales. -/
theorem reg_xs : Value.reg_main_v5_5 m c
    = fun i : S8192x1.Idx => Spec.xs (fun r k => V m c main_v0 (ix2 r k)) (fun k => V m c main_v1 (ix2 (0 : Fin 1) k)) (fun k => V m c main_v2 (ix2 (0 : Fin 1) k)) (i 0) := by
  unfold Value.reg_main_v5_5
  refine (dats m 0 c).arrAt_eq_of_covers 12 _ (by decide +kernel) fun t hf y => ?_
  blk_simp
  rw [after0_12]
  unfold_out out0_12
  frame_out
  obtain ⟨r, k, rfl⟩ : ∃ (r : Fin 8192) (k : Fin 1), y = ix2 r k := ⟨y 0, y 1, ValueIdx.eq_ix2 y⟩
  rw [show ((View.whole main_v5_5).slice (win0_12.rect t)).emb (ix2 r k) 0 = r from Fin.ext (by blk_simp [(idxo t).2.2.2.2.2.1])]
  refine (congrArg (fun u => k0_pay4 (F := Ideal) _ _ _ (ix2 r u)) (Subsingleton.elim k 0)).trans ((pay4_at _ _ _ r).trans ?_)
  simp only [iblk_0_at, iblk_1_at, iblk_2_at, iblk_3_at, iblk_4_at, iblk_5_at, iblk_6_at]

/-- The hidden activation's codes. -/
theorem reg_hc : Value.reg_main_v5_6 m c
    = fun i : S8192x18432.Idx => Spec.hc (fun r k => V m c main_v0 (ix2 r k)) (fun k => V m c main_v1 (ix2 (0 : Fin 1) k)) (fun k => V m c main_v2 (ix2 (0 : Fin 1) k)) (fun k n => V m c main_arg3 (ix2 k n)) (fun n => V m c main_v3 (ix2 (0 : Fin 1) n)) (i 0) (i 1) := by
  unfold Value.reg_main_v5_6
  refine (dats m 0 c).arrAt_eq_of_covers 13 _ (by decide +kernel) fun t hf y => ?_
  blk_simp
  rw [after0_13]
  unfold_out out0_13
  frame_out
  obtain ⟨r, k, rfl⟩ : ∃ (r : Fin 8192) (k : Fin 18432), y = ix2 r k := ⟨y 0, y 1, ValueIdx.eq_ix2 y⟩
  rw [show ((View.whole main_v5_6).slice (win0_13.rect t)).emb (ix2 r k) 0 = r from Fin.ext (by blk_simp [(idxo t).2.2.2.2.2.2.1]),
    show ((View.whole main_v5_6).slice (win0_13.rect t)).emb (ix2 r k) 1 = k from Fin.ext (by blk_simp [(idxo t).2.2.2.2.2.2.1])]
  refine (hc_at _ _ _ _ _ r k).trans ?_
  simp only [iblk_0_at, iblk_1_at, iblk_2_at, iblk_3_at, iblk_4_at, iblk_5_at, iblk_6_at]

/-- The hidden activation's scales. -/
theorem reg_hs : Value.reg_main_v5_7 m c
    = fun i : S8192x1.Idx => Spec.hs (fun r k => V m c main_v0 (ix2 r k)) (fun k => V m c main_v1 (ix2 (0 : Fin 1) k)) (fun k => V m c main_v2 (ix2 (0 : Fin 1) k)) (fun k n => V m c main_arg3 (ix2 k n)) (fun n => V m c main_v3 (ix2 (0 : Fin 1) n)) (i 0) := by
  unfold Value.reg_main_v5_7
  refine (dats m 0 c).arrAt_eq_of_covers 14 _ (by decide +kernel) fun t hf y => ?_
  blk_simp
  rw [after0_14]
  unfold_out out0_14
  frame_out
  obtain ⟨r, k, rfl⟩ : ∃ (r : Fin 8192) (k : Fin 1), y = ix2 r k := ⟨y 0, y 1, ValueIdx.eq_ix2 y⟩
  rw [show ((View.whole main_v5_7).slice (win0_14.rect t)).emb (ix2 r k) 0 = r from Fin.ext (by blk_simp [(idxo t).2.2.2.2.2.2.2])]
  refine (congrArg (fun u => k0_pay12 (F := Ideal) _ _ _ (ix2 r u)) (Subsingleton.elim k 0)).trans ((hs_at _ _ _ _ _ r).trans ?_)
  simp only [iblk_0_at, iblk_1_at, iblk_2_at, iblk_3_at, iblk_4_at, iblk_5_at, iblk_6_at]

end Cert.ReferenceIdeal.Val

end
-- ==== Proof.Value.ROut.lean ====
module

public import proofs.«01_k».proof.Proof.Value.RArr

/-! The reference's eight results, as the layer's functions of its seven arguments. -/

@[expose] public section

set_option maxRecDepth 16384

noncomputable section

namespace Cert.ReferenceIdeal.Val

open Idealize.ShloMosaic Cert.ReferenceIdeal Cert.ReferenceIdeal.Gen
open Idealize.ShloMosaic.TcCoe

variable (m : (ℓ : Loc nD τ sig) → Buf (Elt Ideal) ℓ) (c : Dev nD)

/-! ### The operands, as index functions of the program's arguments -/

/-- The input's rows. -/
abbrev ax (r k : Fin 8192) : EReal := shapeCast S8192x8192 (m ((c : Thread nD τ).loc main_arg0)) shapeCasts_S2x4096x8192_S8192x8192 (ix2 r k)
/-- The gain. -/
abbrev ag (k : Fin 8192) : EReal := shapeCast S1x8192 (m ((c : Thread nD τ).loc main_arg1)) shapeCasts_S8192_S1x8192 (ix2 (0 : Fin 1) k)
/-- The smoothing scale. -/
abbrev asm (k : Fin 8192) : EReal := shapeCast S1x8192 (m ((c : Thread nD τ).loc main_arg2)) shapeCasts_S8192_S1x8192 (ix2 (0 : Fin 1) k)
/-- The first product's codes. -/
abbrev aw (k : Fin 8192) (n : Fin 47104) : BitVec 8 := m ((c : Thread nD τ).loc main_arg3) (ix2 k n)
/-- The first product's column scales. -/
abbrev aws (n : Fin 47104) : EReal := shapeCast S1x47104 (m ((c : Thread nD τ).loc main_arg4)) shapeCasts_S47104_S1x47104 (ix2 (0 : Fin 1) n)
/-- The second product's codes. -/
abbrev awd (k : Fin 18432) (n : Fin 8192) : BitVec 8 := m ((c : Thread nD τ).loc main_arg5) (ix2 k n)
/-- The second product's column scales. -/
abbrev awds (n : Fin 8192) : EReal := shapeCast S1x8192 (m ((c : Thread nD τ).loc main_arg6)) shapeCasts_S8192_S1x8192 (ix2 (0 : Fin 1) n)

/-! ### The call's operands, read through the reshapes before it -/

/-- What `main_v0` holds at the call's entry. -/
theorem V_v0 : V m c main_v0 = shapeCast S8192x8192 (m ((c : Thread nD τ).loc main_arg0)) shapeCasts_S2x4096x8192_S8192x8192 := by
  show StableHlo.after (List.flatten [hostOps0]) _ (Proc.devRef .tc main_v0) = _
  simp only [hostOps0, List.flatten_cons, List.flatten_nil, List.append_nil, List.cons_append, List.nil_append]
  after_results <;> rfl
/-- What `main_v1` holds at the call's entry. -/
theorem V_v1 : V m c main_v1 = shapeCast S1x8192 (m ((c : Thread nD τ).loc main_arg1)) shapeCasts_S8192_S1x8192 := by
  show StableHlo.after (List.flatten [hostOps0]) _ (Proc.devRef .tc main_v1) = _
  simp only [hostOps0, List.flatten_cons, List.flatten_nil, List.append_nil, List.cons_append, List.nil_append]
  after_results <;> rfl
/-- What `main_v2` holds at the call's entry. -/
theorem V_v2 : V m c main_v2 = shapeCast S1x8192 (m ((c : Thread nD τ).loc main_arg2)) shapeCasts_S8192_S1x8192 := by
  show StableHlo.after (List.flatten [hostOps0]) _ (Proc.devRef .tc main_v2) = _
  simp only [hostOps0, List.flatten_cons, List.flatten_nil, List.append_nil, List.cons_append, List.nil_append]
  after_results <;> rfl
/-- What `main_v3` holds at the call's entry. -/
theorem V_v3 : V m c main_v3 = shapeCast S1x47104 (m ((c : Thread nD τ).loc main_arg4)) shapeCasts_S47104_S1x47104 := by
  show StableHlo.after (List.flatten [hostOps0]) _ (Proc.devRef .tc main_v3) = _
  simp only [hostOps0, List.flatten_cons, List.flatten_nil, List.append_nil, List.cons_append, List.nil_append]
  after_results <;> rfl
/-- What `main_v4` holds at the call's entry. -/
theorem V_v4 : V m c main_v4 = shapeCast S1x8192 (m ((c : Thread nD τ).loc main_arg6)) shapeCasts_S8192_S1x8192 := by
  show StableHlo.after (List.flatten [hostOps0]) _ (Proc.devRef .tc main_v4) = _
  simp only [hostOps0, List.flatten_cons, List.flatten_nil, List.append_nil, List.cons_append, List.nil_append]
  after_results <;> rfl

/-- The operand that the call reads as the input, from the arguments. -/
theorem in_x : (fun r k => V m c main_v0 (ix2 r k)) = ax m c :=
  funext fun r => funext fun k => congrFun (V_v0 m c) (ix2 r k)
/-- The operand that the call reads as the gain, from the arguments. -/
theorem in_g : (fun k => V m c main_v1 (ix2 (0 : Fin 1) k)) = ag m c :=
  funext fun k => congrFun (V_v1 m c) (ix2 (0 : Fin 1) k)
/-- The operand that the call reads as the smoothing scale, from the arguments. -/
theorem in_s : (fun k => V m c main_v2 (ix2 (0 : Fin 1) k)) = asm m c :=
  funext fun k => congrFun (V_v2 m c) (ix2 (0 : Fin 1) k)
/-- The operand that the call reads as the first product's codes, from the arguments. -/
theorem in_w : (fun k n => V m c main_arg3 (ix2 k n)) = aw m c :=
  funext fun r => funext fun k => congrFun (V_main_arg3 m c) (ix2 r k)
/-- The operand that the call reads as the first product's column scales, from the arguments. -/
theorem in_ws : (fun n => V m c main_v3 (ix2 (0 : Fin 1) n)) = aws m c :=
  funext fun k => congrFun (V_v3 m c) (ix2 (0 : Fin 1) k)
/-- The operand that the call reads as the second product's codes, from the arguments. -/
theorem in_wd : (fun k n => V m c main_arg5 (ix2 k n)) = awd m c :=
  funext fun r => funext fun k => congrFun (V_main_arg5 m c) (ix2 r k)
/-- The operand that the call reads as the second product's column scales, from the arguments. -/
theorem in_wds : (fun n => V m c main_v4 (ix2 (0 : Fin 1) n)) = awds m c :=
  funext fun k => congrFun (V_v4 m c) (ix2 (0 : Fin 1) k)

/-! ### The results -/

/-- The queries that the reference returns. -/
theorem out_q : shapeCast _ (Value.reg_main_v5_0 m c) shapeCasts_S8192x8192_S2x4096x64x128
    = shapeCast S2x4096x64x128 (fun i : S8192x8192.Idx => Spec.q (ax m c) (ag m c) (asm m c) (aw m c) (aws m c) (i 0) (i 1)) shapeCasts_S8192x8192_S2x4096x64x128 := by
  rw [reg_q, in_x, in_g, in_s, in_w, in_ws]
/-- The keys that the reference returns. -/
theorem out_k : shapeCast _ (Value.reg_main_v5_1 m c) shapeCasts_S8192x1024_S2x4096x8x128
    = shapeCast S2x4096x8x128 (fun i : S8192x1024.Idx => Spec.k (ax m c) (ag m c) (asm m c) (aw m c) (aws m c) (i 0) (i 1)) shapeCasts_S8192x1024_S2x4096x8x128 := by
  rw [reg_k, in_x, in_g, in_s, in_w, in_ws]
/-- The values that the reference returns. -/
theorem out_v : shapeCast _ (Value.reg_main_v5_2 m c) shapeCasts_S8192x1024_S2x4096x8x128
    = shapeCast S2x4096x8x128 (fun i : S8192x1024.Idx => Spec.v (ax m c) (ag m c) (asm m c) (aw m c) (aws m c) (i 0) (i 1)) shapeCasts_S8192x1024_S2x4096x8x128 := by
  rw [reg_v, in_x, in_g, in_s, in_w, in_ws]
/-- The output that the reference returns. -/
theorem out_y : shapeCast _ (Value.reg_main_v5_3 m c) shapeCasts_S8192x8192_S2x4096x8192
    = shapeCast S2x4096x8192 (fun i : S8192x8192.Idx => Spec.y (ax m c) (ag m c) (asm m c) (aw m c) (aws m c) (awd m c) (awds m c) (i 0) (i 1)) shapeCasts_S8192x8192_S2x4096x8192 := by
  rw [reg_y, in_x, in_g, in_s, in_w, in_ws, in_wd, in_wds]
/-- The input's codes that the reference returns. -/
theorem out_xc : shapeCast _ (Value.reg_main_v5_4 m c) shapeCasts_S8192x8192_S2x4096x8192
    = shapeCast S2x4096x8192 (fun i : S8192x8192.Idx => Spec.xc (ax m c) (ag m c) (asm m c) (i 0) (i 1)) shapeCasts_S8192x8192_S2x4096x8192 := by
  rw [reg_xc, in_x, in_g, in_s]
/-- The input's scales that the reference returns. -/
theorem out_xs : shapeCast _ (Value.reg_main_v5_5 m c) shapeCasts_S8192x1_S2x4096
    = shapeCast S2x4096 (fun i : S8192x1.Idx => Spec.xs (ax m c) (ag m c) (asm m c) (i 0)) shapeCasts_S8192x1_S2x4096 := by
  rw [reg_xs, in_x, in_g, in_s]
/-- The hidden activation's codes that the reference returns. -/
theorem out_hc : shapeCast _ (Value.reg_main_v5_6 m c) shapeCasts_S8192x18432_S2x4096x18432
    = shapeCast S2x4096x18432 (fun i : S8192x18432.Idx => Spec.hc (ax m c) (ag m c) (asm m c) (aw m c) (aws m c) (i 0) (i 1)) shapeCasts_S8192x18432_S2x4096x18432 := by
  rw [reg_hc, in_x, in_g, in_s, in_w, in_ws]
/-- The hidden activation's scales that the reference returns. -/
theorem out_hs : shapeCast _ (Value.reg_main_v5_7 m c) shapeCasts_S8192x1_S2x4096
    = shapeCast S2x4096 (fun i : S8192x1.Idx => Spec.hs (ax m c) (ag m c) (asm m c) (aw m c) (aws m c) (i 0)) shapeCasts_S8192x1_S2x4096 := by
  rw [reg_hs, in_x, in_g, in_s, in_w, in_ws]

end Cert.ReferenceIdeal.Val

end
-- ==== Proof.Value.Alg.lean ====
module

public import proofs.«01_k».proof.Defs
public import proofs.«01_k».proof.Proof.KernelIdeal.Run
public import proofs.«01_k».proof.Proof.Value.KOut
public import proofs.«01_k».proof.Proof.Value.ROut

/-! The value claim: from equal arguments the two programs leave equal results, all eight. -/

@[expose] public section

set_option maxRecDepth 16384

noncomputable section

namespace Cert.Value

open Idealize.ShloMosaic Idealize.SL.Sem
open Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (ρ : Dev Cert.KernelIdeal.nD → PrngReg) (c : Dev Cert.KernelIdeal.nD)

/-! ### The operands agree when the arguments do -/

/-- The reference's operand `ax` is the kernel's when the arguments agree. -/
theorem ax_eq (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Val.ax m' c = Cert.KernelIdeal.Val.ax m c := by
  unfold Cert.ReferenceIdeal.Val.ax
  rw [h]
/-- The reference's operand `ag` is the kernel's when the arguments agree. -/
theorem ag_eq (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Val.ag m' c = Cert.KernelIdeal.Val.ag m c := by
  unfold Cert.ReferenceIdeal.Val.ag
  rw [h]
/-- The reference's operand `asm` is the kernel's when the arguments agree. -/
theorem asm_eq (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Val.asm m' c = Cert.KernelIdeal.Val.asm m c := by
  unfold Cert.ReferenceIdeal.Val.asm
  rw [h]
/-- The reference's operand `aw` is the kernel's when the arguments agree. -/
theorem aw_eq (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Val.aw m' c = Cert.KernelIdeal.Val.aw m c := by
  unfold Cert.ReferenceIdeal.Val.aw
  rw [h]
/-- The reference's operand `aws` is the kernel's when the arguments agree. -/
theorem aws_eq (h : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Val.aws m' c = Cert.KernelIdeal.Val.aws m c := by
  unfold Cert.ReferenceIdeal.Val.aws
  rw [h]
/-- The reference's operand `awd` is the kernel's when the arguments agree. -/
theorem awd_eq (h : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    Cert.ReferenceIdeal.Val.awd m' c = Cert.KernelIdeal.Val.awd m c := by
  unfold Cert.ReferenceIdeal.Val.awd
  rw [h]
/-- The reference's operand `awds` is the kernel's when the arguments agree. -/
theorem awds_eq (h : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)) :
    Cert.ReferenceIdeal.Val.awds m' c = Cert.KernelIdeal.Val.awds m c := by
  unfold Cert.ReferenceIdeal.Val.awds
  rw [h]

/-- The value claim. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Fr.W7 m g c (Proc.devRef .tc Cert.KernelIdeal.main_v11), fun c => Cert.KernelIdeal.Fr.W7 m g c (Proc.devRef .tc Cert.KernelIdeal.main_v13), fun c => Cert.KernelIdeal.Fr.W7 m g c (Proc.devRef .tc Cert.KernelIdeal.main_v15), fun c => Cert.KernelIdeal.Fr.W7 m g c (Proc.devRef .tc Cert.KernelIdeal.main_v16), fun c => Cert.KernelIdeal.Fr.W7 m g c (Proc.devRef .tc Cert.KernelIdeal.main_v17), fun c => Cert.KernelIdeal.Fr.W7 m g c (Proc.devRef .tc Cert.KernelIdeal.main_v20), fun c => Cert.KernelIdeal.Fr.W7 m g c (Proc.devRef .tc Cert.KernelIdeal.main_v21), fun c => Cert.KernelIdeal.Fr.W7 m g c (Proc.devRef .tc Cert.KernelIdeal.main_v24), ?_, ?_⟩
  · exact (θ_run Cert.KernelIdeal.defs _ _).mono (fun r h c =>
      ⟨h.1 c _ (Cert.KernelIdeal.Fr.mem_uc Cert.KernelIdeal.main_v11 (by decide)),
       h.1 c _ (Cert.KernelIdeal.Fr.mem_uc Cert.KernelIdeal.main_v13 (by decide)),
       h.1 c _ (Cert.KernelIdeal.Fr.mem_uc Cert.KernelIdeal.main_v15 (by decide)),
       h.1 c _ (Cert.KernelIdeal.Fr.mem_uc Cert.KernelIdeal.main_v16 (by decide)),
       h.1 c _ (Cert.KernelIdeal.Fr.mem_uc Cert.KernelIdeal.main_v17 (by decide)),
       h.1 c _ (Cert.KernelIdeal.Fr.mem_uc Cert.KernelIdeal.main_v20 (by decide)),
       h.1 c _ (Cert.KernelIdeal.Fr.mem_uc Cert.KernelIdeal.main_v21 (by decide)),
       h.1 c _ (Cert.KernelIdeal.Fr.mem_uc Cert.KernelIdeal.main_v24 (by decide)),
       (h.1 c _ (Cert.KernelIdeal.Fr.mem_uc Cert.KernelIdeal.main_arg0 (by decide))).trans (Cert.KernelIdeal.Fr.W7_main_arg0 m g c),
       (h.1 c _ (Cert.KernelIdeal.Fr.mem_uc Cert.KernelIdeal.main_arg1 (by decide))).trans (Cert.KernelIdeal.Fr.W7_main_arg1 m g c),
       (h.1 c _ (Cert.KernelIdeal.Fr.mem_uc Cert.KernelIdeal.main_arg2 (by decide))).trans (Cert.KernelIdeal.Fr.W7_main_arg2 m g c),
       (h.1 c _ (Cert.KernelIdeal.Fr.mem_uc Cert.KernelIdeal.main_arg3 (by decide))).trans (Cert.KernelIdeal.Fr.W7_main_arg3 m g c),
       (h.1 c _ (Cert.KernelIdeal.Fr.mem_uc Cert.KernelIdeal.main_arg4 (by decide))).trans (Cert.KernelIdeal.Fr.W7_main_arg4 m g c),
       (h.1 c _ (Cert.KernelIdeal.Fr.mem_uc Cert.KernelIdeal.main_arg5 (by decide))).trans (Cert.KernelIdeal.Fr.W7_main_arg5 m g c),
       (h.1 c _ (Cert.KernelIdeal.Fr.mem_uc Cert.KernelIdeal.main_arg6 (by decide))).trans (Cert.KernelIdeal.Fr.W7_main_arg6 m g c)⟩)
      (Cert.KernelIdeal.Fr.run_main m g)
  · refine (θ_run Cert.ReferenceIdeal.defs _ _).mono (fun r h c => ?_) (Cert.ReferenceIdeal.Value.run m' g')
    obtain ⟨h0, h1, h2, h3, h4, h5, h6, h7, ha⟩ := h c
    obtain ⟨e0, e1, e2, e3, e4, e5, e6⟩ := hagree c
    have ex := ax_eq m m' c e0
    have eg := ag_eq m m' c e1
    have es := asm_eq m m' c e2
    have ew := aw_eq m m' c e3
    have ews := aws_eq m m' c e4
    have ewd := awd_eq m m' c e5
    have ewds := awds_eq m m' c e6
    refine ⟨?_, ?_, ?_, ?_, ?_, ?_, ?_, ?_, ha⟩
    · refine (h0.trans (Cert.ReferenceIdeal.Val.out_q m' c)).trans ?_
      rw [ex, eg, es, ew, ews]
      exact (Cert.KernelIdeal.Val.out_q m g c).symm
    · refine (h1.trans (Cert.ReferenceIdeal.Val.out_k m' c)).trans ?_
      rw [ex, eg, es, ew, ews]
      exact (Cert.KernelIdeal.Val.out_k m g c).symm
    · refine (h2.trans (Cert.ReferenceIdeal.Val.out_v m' c)).trans ?_
      rw [ex, eg, es, ew, ews]
      exact (Cert.KernelIdeal.Val.out_v m g c).symm
    · refine (h3.trans (Cert.ReferenceIdeal.Val.out_y m' c)).trans ?_
      rw [ex, eg, es, ew, ews, ewd, ewds]
      exact (Cert.KernelIdeal.Val.out_y m g c).symm
    · refine (h4.trans (Cert.ReferenceIdeal.Val.out_xc m' c)).trans ?_
      rw [ex, eg, es]
      exact (Cert.KernelIdeal.Val.out_xc m g c).symm
    · refine (h5.trans (Cert.ReferenceIdeal.Val.out_xs m' c)).trans ?_
      rw [ex, eg, es]
      exact (Cert.KernelIdeal.Val.out_xs m g c).symm
    · refine (h6.trans (Cert.ReferenceIdeal.Val.out_hc m' c)).trans ?_
      rw [ex, eg, es, ew, ews]
      exact (Cert.KernelIdeal.Val.out_hc m g c).symm
    · refine (h7.trans (Cert.ReferenceIdeal.Val.out_hs m' c)).trans ?_
      rw [ex, eg, es, ew, ews]
      exact (Cert.KernelIdeal.Val.out_hs m g c).symm

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Kernel.Run
public import proofs.«01_k».proof.Proof.KernelIdeal.Run
public import proofs.«01_k».proof.Proof.Value.Alg
public import Idealize.ShloMosaic.Adequacy
public import Idealize.ShloMosaic.Init

@[expose] public section

noncomputable section

namespace Cert.Proof

open Idealize.ShloMosaic Idealize.SL.Sem Cert.Kernel

/-- Everything the certificate claims: each program runs to completion from every state, leaves its arguments unchanged and every semaphore at zero,
    the idealised kernel is the kernel itself, and over the extended reals the kernel's eight results are the reference's. -/
theorem claim : Cert.Claim := ⟨Cert.Kernel.Gen.facts, Cert.KernelIdeal.Gen.facts, Cert.ReferenceIdeal.Gen.facts,
  fun m g _ => Cert.Kernel.Fr.frame m g,
  fun m g _ => Cert.KernelIdeal.Fr.frame m g,
  fun m g _ => Cert.ReferenceIdeal.Gen.frame m g,
  trivial,
  Cert.Value.algebraic⟩

end Cert.Proof

end
